-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_meaningful [hPre_meaningful : Cert.Pre_meaningful.Facts] (m : (ℓ : Loc Cert.KernelIdeal.nD Cert.KernelIdeal.τ Cert.KernelIdeal.sig) → Buf (Elt Ideal) ℓ) : Prop :=
  ∀ c : Dev Cert.KernelIdeal.nD,
    (Cert.Pre_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_meaningful [hPre_meaningful : Cert.Pre_meaningful.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_meaningful.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_meaningful [hKernelIdeal : Cert.KernelIdeal.Facts] [hPre_meaningful : Cert.Pre_meaningful.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_meaningful m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_meaningful [hReferenceIdeal : Cert.ReferenceIdeal.Facts] [hPre_meaningful : Cert.Pre_meaningful.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_meaningful m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "a1" .f32 0x39A5CB5F#32 (((1 / 100) * (Real.sqrt (1 / 1000)) : ℝ) : EReal)
  ∧ IdealRules.named_const.Statement Cert.KernelIdeal.κ "e1" .f32 0x2FADD91A#32 (((1 / 100000000) * (Real.sqrt (1 / 1000)) : ℝ) : EReal)
  ∧ IdealRules.named_const.Statement Cert.KernelIdeal.κ "a2" .f32 0x3976BF5A#32 (((1 / 190) * (Real.sqrt (1999 / 1000000)) : ℝ) : EReal)
  ∧ IdealRules.named_const.Statement Cert.KernelIdeal.κ "e2" .f32 0x2FF5CBFB#32 (((1 / 100000000) * (Real.sqrt (1999 / 1000000)) : ℝ) : EReal)
  ∧ IdealRules.named_const.Statement Cert.KernelIdeal.κ "a3" .f32 0x3953D2CF#32 (((1 / 271) * (Real.sqrt (2997001 / 1000000000)) : ℝ) : EReal)
  ∧ IdealRules.named_const.Statement Cert.KernelIdeal.κ "e3" .f32 0x30167B47#32 (((1 / 100000000) * (Real.sqrt (2997001 / 1000000000)) : ℝ) : EReal)
  ∧ IdealRules.named_const.Statement Cert.KernelIdeal.κ "a4" .f32 0x3940B218#32 (((10 / 3439) * (Real.sqrt (3994003999 / 1000000000000)) : ℝ) : EReal)
  ∧ IdealRules.named_const.Statement Cert.KernelIdeal.κ "e4" .f32 0x302DB7BC#32 (((1 / 100000000) * (Real.sqrt (3994003999 / 1000000000000)) : ℝ) : EReal)
  ∧ IdealRules.named_const.Statement Cert.KernelIdeal.κ "a5" .f32 0x3934E0CE#32 (((100 / 40951) * (Real.sqrt (4990009995001 / 1000000000000000)) : ℝ) : EReal)
  ∧ IdealRules.named_const.Statement Cert.KernelIdeal.κ "e5" .f32 0x30422C7C#32 (((1 / 100000000) * (Real.sqrt (4990009995001 / 1000000000000000)) : ℝ) : EReal)
  ∧ IdealRules.named_const.Statement Cert.KernelIdeal.κ "a6" .f32 0x392D20E2#32 (((1000 / 468559) * (Real.sqrt (5985019985005999 / 1000000000000000000)) : ℝ) : EReal)
  ∧ IdealRules.named_const.Statement Cert.KernelIdeal.κ "e6" .f32 0x3054A74F#32 (((1 / 100000000) * (Real.sqrt (5985019985005999 / 1000000000000000000)) : ℝ) : EReal)
  ∧ IdealRules.named_const.Statement Cert.KernelIdeal.κ "a7" .f32 0x3927E8B9#32 (((10000 / 5217031) * (Real.sqrt (6979034965020993001 / 1000000000000000000000)) : ℝ) : EReal)
  ∧ IdealRules.named_const.Statement Cert.KernelIdeal.κ "e7" .f32 0x3065A27C#32 (((1 / 100000000) * (Real.sqrt (6979034965020993001 / 1000000000000000000000)) : ℝ) : EReal)
  ∧ IdealRules.named_const.Statement Cert.KernelIdeal.κ "a8" .f32 0x392462F7#32 (((100000 / 56953279) * (Real.sqrt (7972055930055972007999 / 1000000000000000000000000)) : ℝ) : EReal)
  ∧ IdealRules.named_const.Statement Cert.KernelIdeal.κ "e8" .f32 0x30756DB3#32 (((1 / 100000000) * (Real.sqrt (7972055930055972007999 / 1000000000000000000000000)) : ℝ) : EReal)
  ∧ IdealRules.named_const.Statement Cert.KernelIdeal.κ "a9" .f32 0x392210C0#32 (((1000000 / 612579511) * (Real.sqrt (8964083874125916035991001 / 1000000000000000000000000000)) : ℝ) : EReal)
  ∧ IdealRules.named_const.Statement Cert.KernelIdeal.κ "e9" .f32 0x30822028#32 (((1 / 100000000) * (Real.sqrt (8964083874125916035991001 / 1000000000000000000000000000)) : ℝ) : EReal)
  ∧ IdealRules.named_const.Statement Cert.KernelIdeal.κ "a10" .f32 0x3920A161#32 (((10000000 / 6513215599) * (Real.sqrt (9955119790251790119955009999 / 1000000000000000000000000000000)) : ℝ) : EReal)
  ∧ IdealRules.named_const.Statement Cert.KernelIdeal.κ "e10" .f32 0x30892154#32 (((1 / 100000000) * (Real.sqrt (9955119790251790119955009999 / 1000000000000000000000000000000)) : ℝ) : EReal)
  ∧ IdealRules.named_const.Statement Cert.KernelIdeal.κ "third" .f32 0x3EAAAAAB#32 ((1 / 3 : ℝ) : EReal)

def algebraic_KernelIdeal_ReferenceIdeal_pre_meaningful [hKernelIdeal : Cert.KernelIdeal.Facts] [hReferenceIdeal : Cert.ReferenceIdeal.Facts] [hPre_meaningful : Cert.Pre_meaningful.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_meaningful m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_meaningful : Cert.Pre_meaningful.Facts),
    quiescent_Kernel (hKernel := hKernel)
    ∧ quiescent_KernelIdeal (hKernelIdeal := hKernelIdeal)
    ∧ quiescent_KernelIdeal_pre_meaningful (hKernelIdeal := hKernelIdeal) (hPre_meaningful := hPre_meaningful)
    ∧ quiescent_ReferenceIdeal (hReferenceIdeal := hReferenceIdeal)
    ∧ quiescent_ReferenceIdeal_pre_meaningful (hReferenceIdeal := hReferenceIdeal) (hPre_meaningful := hPre_meaningful)
    ∧ preserves_Kernel_KernelIdeal
    ∧ algebraic_KernelIdeal_ReferenceIdeal_pre_meaningful (hKernelIdeal := hKernelIdeal) (hReferenceIdeal := hReferenceIdeal) (hPre_meaningful := hPre_meaningful)
-- ==== Pre_meaningful.lean ====
abbrev S2048x512 : Shape := ⟨2, ![2048, 512]⟩
abbrev S2048 : Shape := ⟨1, ![2048]⟩
abbrev S4096x512 : Shape := ⟨2, ![4096, 512]⟩
abbrev S4096 : Shape := ⟨1, ![4096]⟩
abbrev S_ : Shape := ⟨0, ![]⟩
abbrev S2048x1 : Shape := ⟨2, ![2048, 1]⟩
abbrev S4096x1 : Shape := ⟨2, ![4096, 1]⟩
abbrev S1x2048 : Shape := ⟨2, ![1, 2048]⟩
abbrev S1x1x1x2048 : Shape := ⟨4, ![1, 1, 1, 2048]⟩
abbrev S2048x1x1x2048 : Shape := ⟨4, ![2048, 1, 1, 2048]⟩
abbrev S2048x2048 : Shape := ⟨2, ![2048, 2048]⟩
abbrev S512x512 : Shape := ⟨2, ![512, 512]⟩
abbrev S512x2048 : Shape := ⟨2, ![512, 2048]⟩

class Facts : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  reducesTo_S4096x512_S4096_d1 : S4096x512.ReducesTo [1] S4096
  bcast_S4096_S4096x1_0 : S4096.BroadcastsInDim S4096x1 (![0] : Fin 1 → Fin S4096x1.rank)
  bcast_S_S2048 : S_.BroadcastsInDim S2048 (![] : Fin 0 → Fin S2048.rank)
  reducesTo_S2048_S_d0 : S2048.ReducesTo [0] S_
  bcast_S_S2048x1 : S_.BroadcastsInDim S2048x1 (![] : Fin 0 → Fin S2048x1.rank)
  reducesTo_S2048x1_S_d0_1 : S2048x1.ReducesTo [0, 1] S_
  bcast_S_S4096x1 : S_.BroadcastsInDim S4096x1 (![] : Fin 0 → Fin S4096x1.rank)
  reducesTo_S4096x1_S_d0_1 : S4096x1.ReducesTo [0, 1] S_
  bcast_S2048x1_S2048x512_0_1 : S2048x1.BroadcastsInDim S2048x512 (![0, 1] : Fin 2 → Fin S2048x512.rank)
  bcast_S2048_S1x2048_1 : S2048.BroadcastsInDim S1x2048 (![1] : Fin 1 → Fin S1x2048.rank)
  shapeCasts_S1x2048_S1x1x1x2048 : S1x2048.ShapeCasts S1x1x1x2048
  bcast_S1x1x1x2048_S2048x1x1x2048_0_1_2_3 : S1x1x1x2048.BroadcastsInDim S2048x1x1x2048 (![0, 1, 2, 3] : Fin 4 → Fin S2048x1x1x2048.rank)
  shapeCasts_S2048x1x1x2048_S2048x2048 : S2048x1x1x2048.ShapeCasts S2048x2048
  transposes_S2048x2048_S2048x2048_1_0 : S2048x2048.Transposes [1, 0] S2048x2048
  bcast_S_S2048x2048 : S_.BroadcastsInDim S2048x2048 (![] : Fin 0 → Fin S2048x2048.rank)
  reducesTo_S2048x2048_S_d0_1 : S2048x2048.ReducesTo [0, 1] S_
  bcast_S_S512x512 : S_.BroadcastsInDim S512x512 (![] : Fin 0 → Fin S512x512.rank)
  transposes_S512x512_S512x512_1_0 : S512x512.Transposes [1, 0] S512x512
  transposes_S2048x512_S512x2048_1_0 : S2048x512.Transposes [1, 0] S512x2048
  transposes_S512x2048_S2048x512_1_0 : S512x2048.Transposes [1, 0] S2048x512
  shapeCasts_S2048_S2048x1 : S2048.ShapeCasts S2048x1
  reducesTo_S2048x1_S2048_d1 : S2048x1.ReducesTo [1] S2048
  bcast_S2048_S2048x512_0 : S2048.BroadcastsInDim S2048x512 (![0] : Fin 1 → Fin S2048x512.rank)
  dot_S2048x512_S512x512_S2048x512_1_0_0_1_n_n_wf : DotDims.WF S2048x512 S512x512 S2048x512 [1] [0] [0] [1] [] []
  dot_S2048x512_S512x2048_S2048x2048_1_0_0_1_n_n_wf : DotDims.WF S2048x512 S512x2048 S2048x2048 [1] [0] [0] [1] [] []
  dot_S2048x2048_S2048x512_S2048x512_0_0_1_1_n_n_wf : DotDims.WF S2048x2048 S2048x512 S2048x512 [0] [0] [1] [1] [] []
  dot_S2048x2048_S512x2048_S2048x512_1_1_0_0_n_n_wf : DotDims.WF S2048x2048 S512x2048 S2048x512 [1] [1] [0] [0] [] []
  dot_S2048x512_S2048x512_S512x512_0_0_1_1_n_n_wf : DotDims.WF S2048x512 S2048x512 S512x512 [0] [0] [1] [1] [] []

variable [Facts]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf
def dot_S2048x2048_S2048x512_S2048x512_0_0_1_1_n_n : DotDims S2048x2048 S2048x512 S2048x512 where
  lhsContracting := [0]
  rhsContracting := [0]
  lhsNonContracting := [1]
  rhsNonContracting := [1]
  lhsBatch := []
  rhsBatch := []
  wf := dot_S2048x2048_S2048x512_S2048x512_0_0_1_1_n_n_wf
def dot_S2048x2048_S512x2048_S2048x512_1_1_0_0_n_n : DotDims S2048x2048 S512x2048 S2048x512 where
  lhsContracting := [1]
  rhsContracting := [1]
  lhsNonContracting := [0]
  rhsNonContracting := [0]
  lhsBatch := []
  rhsBatch := []
  wf := dot_S2048x2048_S512x2048_S2048x512_1_1_0_0_n_n_wf
def dot_S2048x512_S2048x512_S512x512_0_0_1_1_n_n : DotDims S2048x512 S2048x512 S512x512 where
  lhsContracting := [0]
  rhsContracting := [0]
  lhsNonContracting := [1]
  rhsNonContracting := [1]
  lhsBatch := []
  rhsBatch := []
  wf := dot_S2048x512_S2048x512_S512x512_0_0_1_1_n_n_wf
def fn_norm {F : FTy → Type} [FloatOps F] (arg0 : FVec F S2048x512 .f32) : FVec F S2048x1 .f32 :=
  let v0 : FVec F S2048x512 .f32 := mulf arg0 arg0
  let cst : FVec F S_ .f32 := constant S_ .f32 0x00000000#32
  let v1 : FVec F S2048 .f32 := (fun x v => Host.reduceAdd x v reducesTo_S2048x512_S2048_d1 h_S_) v0 cst
  let v2 : FVec F S2048x1 .f32 := broadcastInDim S2048x1 ![0] bcast_S2048_S2048x1_0 v1
  let v3 : FVec F S2048x1 .f32 := Host.sqrt v2
  v3

def fn_norm_0 {F : FTy → Type} [FloatOps F] (arg0 : FVec F S4096x512 .f32) : FVec F S4096x1 .f32 :=
  let v0 : FVec F S4096x512 .f32 := mulf arg0 arg0
  let cst : FVec F S_ .f32 := constant S_ .f32 0x00000000#32
  let v1 : FVec F S4096 .f32 := (fun x v => Host.reduceAdd x v reducesTo_S4096x512_S4096_d1 h_S_) v0 cst
  let v2 : FVec F S4096x1 .f32 := broadcastInDim S4096x1 ![0] bcast_S4096_S4096x1_0 v1
  let v3 : FVec F S4096x1 .f32 := Host.sqrt v2
  v3

def fn_where {F : FTy → Type} [FloatOps F] (arg0 : IVec S2048x2048 1) (arg1 : FVec F S_ .f32) (arg2 : FVec F S_ .f32) : FVec F S2048x2048 .f32 :=
  let v0 : FVec F S2048x2048 .f32 := broadcastInDim S2048x2048 ![] bcast_S_S2048x2048 arg1
  let v1 : FVec F S2048x2048 .f32 := broadcastInDim S2048x2048 ![] bcast_S_S2048x2048 arg2
  let v2 : FVec F S2048x2048 .f32 := select arg0 v0 v1
  v2

def fn_triu {F : FTy → Type} [FloatOps F] (arg0 : FVec F S2048x2048 .f32) : FVec F S2048x2048 .f32 :=
  let v0 : IVec S2048x2048 32 := iotaInDim S2048x2048 32 0
  let c : IVec S_ 32 := constantI S_ 32 0#32
  let v1 : IVec S2048x2048 32 := broadcastInDim S2048x2048 ![] bcast_S_S2048x2048 c
  let v2 : IVec S2048x2048 32 := addi v0 v1
  let v3 : IVec S2048x2048 32 := iotaInDim S2048x2048 32 1
  let v4 : IVec S2048x2048 1 := cmpi .sge v2 v3
  let cst : FVec F S_ .f32 := constant S_ .f32 0x00000000#32
  let v5 : FVec F S2048x2048 .f32 := broadcastInDim S2048x2048 ![] bcast_S_S2048x2048 cst
  let v6 : FVec F S2048x2048 .f32 := select v4 v5 arg0
  v6

def fn_norm_1 {F : FTy → Type} [FloatOps F] (arg0 : FVec F S2048x512 .f32) : FVec F S2048x1 .f32 :=
  let v0 : FVec F S2048x512 .f32 := mulf arg0 arg0
  let cst : FVec F S_ .f32 := constant S_ .f32 0x00000000#32
  let v1 : FVec F S2048 .f32 := (fun x v => Host.reduceAdd x v reducesTo_S2048x512_S2048_d1 h_S_) v0 cst
  let v2 : FVec F S2048x1 .f32 := broadcastInDim S2048x1 ![0] bcast_S2048_S2048x1_0 v1
  let v3 : FVec F S2048x1 .f32 := Host.sqrt v2
  v3

def fn_norm_2 {F : FTy → Type} [FloatOps F] (arg0 : FVec F S2048x512 .f32) : FVec F S2048x1 .f32 × FVec F S2048x1 .f32 :=
  let v0 : FVec F S2048x512 .f32 := mulf arg0 arg0
  let cst : FVec F S_ .f32 := constant S_ .f32 0x00000000#32
  let v1 : FVec F S2048 .f32 := (fun x v => Host.reduceAdd x v reducesTo_S2048x512_S2048_d1 h_S_) v0 cst
  let v2 : FVec F S2048x1 .f32 := broadcastInDim S2048x1 ![0] bcast_S2048_S2048x1_0 v1
  let v3 : FVec F S2048x1 .f32 := Host.sqrt v2
  let cst_0 : FVec F S_ .f32 := constant S_ .f32 0x3F000000#32
  let v4 : FVec F S2048x1 .f32 := broadcastInDim S2048x1 ![] bcast_S_S2048x1 cst_0
  let v5 : FVec F S2048x1 .f32 := Host.divf v4 v3
  (v3, v5)

def fn_norm_3 {F : FTy → Type} [FloatOps F] (arg0 : FVec F S2048x512 .f32) (arg1 : FVec F S2048x1 .f32) (arg2 : FVec F S2048x1 .f32) : FVec F S2048x512 .f32 :=
  let v0 : FVec F S2048x1 .f32 := mulf arg2 arg1
  let cst : FVec F S_ .f32 := constant S_ .f32 0x00000000#32
  let v1 : FVec F S2048 .f32 := (fun x v => Host.reduceAdd x v reducesTo_S2048x1_S2048_d1 h_S_) v0 cst
  let v2 : FVec F S2048x512 .f32 := broadcastInDim S2048x512 ![0] bcast_S2048_S2048x512_0 v1
  let v3 : FVec F S2048x512 .f32 := mulf arg0 v2
  let v4 : FVec F S2048x512 .f32 := mulf v2 arg0
  let v5 : FVec F S2048x512 .f32 := addf v3 v4
  v5

def fn_adam_step_part4 {F : FTy → Type} [FloatOps F] (arg2 : FVec F S512x512 .f32) (v4 : FVec F S_ .f32) (v5 : FVec F S_ .f32) (v54 : FVec F S512x512 .f32) (v60 : FVec F S512x512 .f32) (v68 : FVec F S512x512 .f32) (v69 : FVec F S512x512 .f32) (v70 : FVec F S512x512 .f32) : FVec F S512x512 .f32 × FVec F S512x512 .f32 × FVec F S512x512 .f32 × FVec F S_ .f32 × FVec F S_ .f32 :=
  let v71 : FVec F S512x512 .f32 := addf v69 v70
  let v72 : FVec F S512x512 .f32 := Host.divf v68 v71
  let v73 : FVec F S512x512 .f32 := subf arg2 v72
  (v73, v54, v60, v4, v5)

def fn_adam_step_part3 {F : FTy → Type} [FloatOps F] (arg2 : FVec F S512x512 .f32) (arg4 : FVec F S512x512 .f32) (v0 : FVec F S_ .f32) (v1 : FVec F S_ .f32) (v4 : FVec F S_ .f32) (v5 : FVec F S_ .f32) (v49 : FVec F S512x512 .f32) (v51 : FVec F S512x512 .f32) : FVec F S512x512 .f32 × FVec F S512x512 .f32 × FVec F S512x512 .f32 × FVec F S_ .f32 × FVec F S_ .f32 :=
  let cst_18 : FVec F S_ .f32 := constant S_ .f32 0x3DCCCCCD#32
  let v52 : FVec F S512x512 .f32 := broadcastInDim S512x512 ![] bcast_S_S512x512 cst_18
  let v53 : FVec F S512x512 .f32 := mulf v52 v49
  let v54 : FVec F S512x512 .f32 := addf v51 v53
  let cst_19 : FVec F S_ .f32 := constant S_ .f32 0x3F7FBE77#32
  let v55 : FVec F S512x512 .f32 := broadcastInDim S512x512 ![] bcast_S_S512x512 cst_19
  let v56 : FVec F S512x512 .f32 := mulf v55 arg4
  let cst_20 : FVec F S_ .f32 := constant S_ .f32 0x3A83126F#32
  let v57 : FVec F S512x512 .f32 := broadcastInDim S512x512 ![] bcast_S_S512x512 cst_20
  let v58 : FVec F S512x512 .f32 := mulf v57 v49
  let v59 : FVec F S512x512 .f32 := mulf v58 v49
  let v60 : FVec F S512x512 .f32 := addf v56 v59
  let cst_21 : FVec F S_ .f32 := constant S_ .f32 0x3F800000#32
  let v61 : FVec F S_ .f32 := subf cst_21 v4
  let v62 : FVec F S512x512 .f32 := broadcastInDim S512x512 ![] bcast_S_S512x512 v61
  let v63 : FVec F S512x512 .f32 := Host.divf v54 v62
  let cst_22 : FVec F S_ .f32 := constant S_ .f32 0x3F800000#32
  let v64 : FVec F S_ .f32 := subf cst_22 v5
  let v65 : FVec F S512x512 .f32 := broadcastInDim S512x512 ![] bcast_S_S512x512 v64
  let v66 : FVec F S512x512 .f32 := Host.divf v60 v65
  let v67 : FVec F S512x512 .f32 := broadcastInDim S512x512 ![] bcast_S_S512x512 v0
  let v68 : FVec F S512x512 .f32 := mulf v67 v63
  let v69 : FVec F S512x512 .f32 := Host.sqrt v66
  let v70 : FVec F S512x512 .f32 := broadcastInDim S512x512 ![] bcast_S_S512x512 v1
  fn_adam_step_part4 (F := F) arg2 v4 v5 v54 v60 v68 v69 v70

def fn_adam_step_part2 {F : FTy → Type} [FloatOps F] (arg0 : FVec F S2048x512 .f32) (arg1 : FVec F S2048x2048 .f32) (arg2 : FVec F S512x512 .f32) (arg3 : FVec F S512x512 .f32) (arg4 : FVec F S512x512 .f32) (v0 : FVec F S_ .f32) (v1 : FVec F S_ .f32) (v4 : FVec F S_ .f32) (v5 : FVec F S_ .f32) (v7 : FVec F S2048x512 .f32) (v8_1 : FVec F S2048x1 .f32) (v10 : FVec F S2048x1 .f32) (v19 : FVec F S2048x1 .f32) (v21 : FVec F S2048x512 .f32) (v24 : FVec F S2048x1 .f32) (v25 : FVec F S512x2048 .f32) (v29 : FVec F S2048x2048 .f32) : FVec F S512x512 .f32 × FVec F S512x512 .f32 × FVec F S512x512 .f32 × FVec F S_ .f32 × FVec F S_ .f32 :=
  let v30 : FVec F S2048x2048 .f32 := mulf v29 arg1
  let v31 : FVec F S2048x512 .f32 := (fun l r => Host.dotGeneral dot_S2048x2048_S2048x512_S2048x512_0_0_1_1_n_n none l r) v30 v21
  let v32 : FVec F S512x2048 .f32 := (transpose S512x2048 [1, 0] · transposes_S2048x512_S512x2048_1_0) v31
  let v33 : FVec F S2048x512 .f32 := (fun l r => Host.dotGeneral dot_S2048x2048_S512x2048_S2048x512_1_1_0_0_n_n none l r) v30 v25
  let v34 : FVec F S2048x512 .f32 := (transpose S2048x512 [1, 0] · transposes_S512x2048_S2048x512_1_0) v32
  let v35 : FVec F S2048x512 .f32 := addf v33 v34
  let v36 : FVec F S2048x512 .f32 := broadcastInDim S2048x512 ![0, 1] bcast_S2048x1_S2048x512_0_1 v24
  let v37 : FVec F S2048x512 .f32 := mulf v35 v36
  let v38 : FVec F S2048x512 .f32 := mulf v37 v7
  let cst_16 : FVec F S_ .f32 := constant S_ .f32 0x00000000#32
  let v39 : FVec F S2048 .f32 := (fun x v => Host.reduceAdd x v reducesTo_S2048x512_S2048_d1 h_S_) v38 cst_16
  let v40 : FVec F S2048x1 .f32 := shapeCast S2048x1 v39 shapeCasts_S2048_S2048x1
  let v41 : FVec F S2048x1 .f32 := Host.negf v40
  let v42 : FVec F S2048x512 .f32 := broadcastInDim S2048x512 ![0, 1] bcast_S2048x1_S2048x512_0_1 v10
  let v43 : FVec F S2048x512 .f32 := Host.divf v35 v42
  let v44 : FVec F S2048x1 .f32 := mulf v41 v19
  let v45 : FVec F S2048x512 .f32 := fn_norm_3 (F := F) v7 v8_1 v44
  let v46 : FVec F S2048x512 .f32 := addf v43 v45
  let v47 : FVec F S512x512 .f32 := (fun l r => Host.dotGeneral dot_S2048x512_S2048x512_S512x512_0_0_1_1_n_n none l r) v46 arg0
  let v48 : FVec F S512x512 .f32 := (transpose S512x512 [1, 0] · transposes_S512x512_S512x512_1_0) v47
  let v49 : FVec F S512x512 .f32 := (transpose S512x512 [1, 0] · transposes_S512x512_S512x512_1_0) v48
  let cst_17 : FVec F S_ .f32 := constant S_ .f32 0x3F666666#32
  let v50 : FVec F S512x512 .f32 := broadcastInDim S512x512 ![] bcast_S_S512x512 cst_17
  let v51 : FVec F S512x512 .f32 := mulf v50 arg3
  fn_adam_step_part3 (F := F) arg2 arg4 v0 v1 v4 v5 v49 v51

def fn_adam_step_part1 {F : FTy → Type} [FloatOps F] (arg0 : FVec F S2048x512 .f32) (arg1 : FVec F S2048x2048 .f32) (arg2 : FVec F S512x512 .f32) (arg3 : FVec F S512x512 .f32) (arg4 : FVec F S512x512 .f32) (v0 : FVec F S_ .f32) (v1 : FVec F S_ .f32) (v4 : FVec F S_ .f32) (v5 : FVec F S_ .f32) (v7 : FVec F S2048x512 .f32) (v8_0 : FVec F S2048x1 .f32) (v8_1 : FVec F S2048x1 .f32) (v10 : FVec F S2048x1 .f32) (v12 : IVec S2048x1 1) : FVec F S512x512 .f32 × FVec F S512x512 .f32 × FVec F S512x512 .f32 × FVec F S_ .f32 × FVec F S_ .f32 :=
  let cst_9 : FVec F S_ .f32 := constant S_ .f32 0x2B8CBCCC#32
  let v13 : FVec F S2048x1 .f32 := broadcastInDim S2048x1 ![] bcast_S_S2048x1 cst_9
  let v14 : IVec S2048x1 1 := cmpf .oeq v8_0 v13
  let cst_10 : FVec F S_ .f32 := constant S_ .f32 0x3F800000#32
  let v15 : FVec F S2048x1 .f32 := broadcastInDim S2048x1 ![] bcast_S_S2048x1 cst_10
  let cst_11 : FVec F S_ .f32 := constant S_ .f32 0x00000000#32
  let v16 : FVec F S2048x1 .f32 := broadcastInDim S2048x1 ![] bcast_S_S2048x1 cst_11
  let cst_12 : FVec F S_ .f32 := constant S_ .f32 0x3F000000#32
  let v17 : FVec F S2048x1 .f32 := broadcastInDim S2048x1 ![] bcast_S_S2048x1 cst_12
  let v18 : FVec F S2048x1 .f32 := select v14 v17 v16
  let v19 : FVec F S2048x1 .f32 := select v12 v15 v18
  let v20 : FVec F S2048x512 .f32 := broadcastInDim S2048x512 ![0, 1] bcast_S2048x1_S2048x512_0_1 v10
  let v21 : FVec F S2048x512 .f32 := Host.divf v7 v20
  let v22 : FVec F S2048x1 .f32 := mulf v10 v10
  let cst_13 : FVec F S_ .f32 := constant S_ .f32 0x3F800000#32
  let v23 : FVec F S2048x1 .f32 := broadcastInDim S2048x1 ![] bcast_S_S2048x1 cst_13
  let v24 : FVec F S2048x1 .f32 := Host.divf v23 v22
  let v25 : FVec F S512x2048 .f32 := (transpose S512x2048 [1, 0] · transposes_S2048x512_S512x2048_1_0) v21
  let v26 : FVec F S2048x2048 .f32 := (fun l r => Host.dotGeneral dot_S2048x512_S512x2048_S2048x2048_1_0_0_1_n_n none l r) v21 v25
  let v27 : FVec F S2048x2048 .f32 := mulf v26 arg1
  let cst_14 : FVec F S_ .f32 := constant S_ .f32 0x00000000#32
  let v28 : FVec F S_ .f32 := (fun x v => Host.reduceAdd x v reducesTo_S2048x2048_S_d0_1 h_S_) v27 cst_14
  let cst_15 : FVec F S_ .f32 := constant S_ .f32 0x3F800000#32
  let v29 : FVec F S2048x2048 .f32 := broadcastInDim S2048x2048 ![] bcast_S_S2048x2048 cst_15
  fn_adam_step_part2 (F := F) arg0 arg1 arg2 arg3 arg4 v0 v1 v4 v5 v7 v8_1 v10 v19 v21 v24 v25 v29

def fn_adam_step {F : FTy → Type} [FloatOps F] (arg0 : FVec F S2048x512 .f32) (arg1 : FVec F S2048x2048 .f32) (arg2 : FVec F S512x512 .f32) (arg3 : FVec F S512x512 .f32) (arg4 : FVec F S512x512 .f32) (arg5 : FVec F S_ .f32) (arg6 : FVec F S_ .f32) : FVec F S512x512 .f32 × FVec F S512x512 .f32 × FVec F S512x512 .f32 × FVec F S_ .f32 × FVec F S_ .f32 :=
  let cst : FVec F S_ .f32 := constant S_ .f32 0x3F800000#32
  let cst_0 : FVec F S_ .f32 := constant S_ .f32 0x447A0000#32
  let v0 : FVec F S_ .f32 := Host.divf cst cst_0
  let cst_1 : FVec F S_ .f32 := constant S_ .f32 0x3F800000#32
  let cst_2 : FVec F S_ .f32 := constant S_ .f32 0x4CBEBC20#32
  let v1 : FVec F S_ .f32 := Host.divf cst_1 cst_2
  let cst_3 : FVec F S_ .f32 := constant S_ .f32 0x41100000#32
  let cst_4 : FVec F S_ .f32 := constant S_ .f32 0x41200000#32
  let v2 : FVec F S_ .f32 := Host.divf cst_3 cst_4
  let cst_5 : FVec F S_ .f32 := constant S_ .f32 0x4479C000#32
  let cst_6 : FVec F S_ .f32 := constant S_ .f32 0x447A0000#32
  let v3 : FVec F S_ .f32 := Host.divf cst_5 cst_6
  let v4 : FVec F S_ .f32 := mulf v2 arg5
  let v5 : FVec F S_ .f32 := mulf v3 arg6
  let v6 : FVec F S512x512 .f32 := (transpose S512x512 [1, 0] · transposes_S512x512_S512x512_1_0) arg2
  let v7 : FVec F S2048x512 .f32 := (fun l r => Host.dotGeneral dot_S2048x512_S512x512_S2048x512_1_0_0_1_n_n none l r) arg0 v6
  let v8_0 : FVec F S2048x1 .f32 := (fn_norm_2 (F := F) v7).1
  let v8_1 : FVec F S2048x1 .f32 := (fn_norm_2 (F := F) v7).2
  let cst_7 : FVec F S_ .f32 := constant S_ .f32 0x2B8CBCCC#32
  let v9 : FVec F S2048x1 .f32 := broadcastInDim S2048x1 ![] bcast_S_S2048x1 cst_7
  let v10 : FVec F S2048x1 .f32 := maximumf v8_0 v9
  let cst_8 : FVec F S_ .f32 := constant S_ .f32 0x2B8CBCCC#32
  let v11 : FVec F S2048x1 .f32 := broadcastInDim S2048x1 ![] bcast_S_S2048x1 cst_8
  let v12 : IVec S2048x1 1 := cmpf .ogt v8_0 v11
  fn_adam_step_part1 (F := F) arg0 arg1 arg2 arg3 arg4 v0 v1 v4 v5 v7 v8_0 v8_1 v10 v12

def fn_part9 {F : FTy → Type} [FloatOps F] (main_v28 : FVec F S2048x512 .f32) (main_v47 : FVec F S2048x2048 .f32) (main_v129 : IVec S_ 1) (main_v130_0 : FVec F S512x512 .f32) (main_v130_1 : FVec F S512x512 .f32) (main_v130_2 : FVec F S512x512 .f32) (main_v130_3 : FVec F S_ .f32) (main_v130_4 : FVec F S_ .f32) (main_v136 : IVec S_ 1) : IVec S_ 1 :=
  let main_v137 : IVec S_ 1 := andi main_v129 main_v136
  let main_v138_0 : FVec F S512x512 .f32 := (fn_adam_step (F := F) main_v28 main_v47 main_v130_0 main_v130_1 main_v130_2 main_v130_3 main_v130_4).1
  let main_v138_1 : FVec F S512x512 .f32 := (fn_adam_step (F := F) main_v28 main_v47 main_v130_0 main_v130_1 main_v130_2 main_v130_3 main_v130_4).2.1
  let main_v138_2 : FVec F S512x512 .f32 := (fn_adam_step (F := F) main_v28 main_v47 main_v130_0 main_v130_1 main_v130_2 main_v130_3 main_v130_4).2.2.1
  let main_v138_3 : FVec F S_ .f32 := (fn_adam_step (F := F) main_v28 main_v47 main_v130_0 main_v130_1 main_v130_2 main_v130_3 main_v130_4).2.2.2.1
  let main_v138_4 : FVec F S_ .f32 := (fn_adam_step (F := F) main_v28 main_v47 main_v130_0 main_v130_1 main_v130_2 main_v130_3 main_v130_4).2.2.2.2
  main_v137

def fn_part8 {F : FTy → Type} [FloatOps F] (main_v28 : FVec F S2048x512 .f32) (main_v47 : FVec F S2048x2048 .f32) (main_v114_0 : FVec F S512x512 .f32) (main_v114_1 : FVec F S512x512 .f32) (main_v114_2 : FVec F S512x512 .f32) (main_v114_3 : FVec F S_ .f32) (main_v114_4 : FVec F S_ .f32) (main_v121 : IVec S_ 1) (main_v122_0 : FVec F S512x512 .f32) (main_v122_1 : FVec F S512x512 .f32) (main_v122_2 : FVec F S512x512 .f32) : IVec S_ 1 :=
  let main_v122_3 : FVec F S_ .f32 := (fn_adam_step (F := F) main_v28 main_v47 main_v114_0 main_v114_1 main_v114_2 main_v114_3 main_v114_4).2.2.2.1
  let main_v122_4 : FVec F S_ .f32 := (fn_adam_step (F := F) main_v28 main_v47 main_v114_0 main_v114_1 main_v114_2 main_v114_3 main_v114_4).2.2.2.2
  let main_v123 : FVec F S512x512 .f32 := (transpose S512x512 [1, 0] · transposes_S512x512_S512x512_1_0) main_v122_0
  let main_v124 : FVec F S2048x512 .f32 := (fun l r => Host.dotGeneral dot_S2048x512_S512x512_S2048x512_1_0_0_1_n_n none l r) main_v28 main_v123
  let main_v125 : FVec F S2048x1 .f32 := fn_norm_1 (F := F) main_v124
  let main_cst_37 : FVec F S_ .f32 := constant S_ .f32 0x2B8CBCCC#32
  let main_v126 : FVec F S2048x1 .f32 := broadcastInDim S2048x1 ![] bcast_S_S2048x1 main_cst_37
  let main_v127 : IVec S2048x1 1 := cmpf .ogt main_v125 main_v126
  let main_c_38 : IVec S_ 1 := constantI S_ 1 1#1
  let main_v128 : IVec S_ 1 := (fun x v => Host.reduce IntOp.andi x v reducesTo_S2048x1_S_d0_1 h_S_) main_v127 main_c_38
  let main_v129 : IVec S_ 1 := andi main_v121 main_v128
  let main_v130_0 : FVec F S512x512 .f32 := (fn_adam_step (F := F) main_v28 main_v47 main_v122_0 main_v122_1 main_v122_2 main_v122_3 main_v122_4).1
  let main_v130_1 : FVec F S512x512 .f32 := (fn_adam_step (F := F) main_v28 main_v47 main_v122_0 main_v122_1 main_v122_2 main_v122_3 main_v122_4).2.1
  let main_v130_2 : FVec F S512x512 .f32 := (fn_adam_step (F := F) main_v28 main_v47 main_v122_0 main_v122_1 main_v122_2 main_v122_3 main_v122_4).2.2.1
  let main_v130_3 : FVec F S_ .f32 := (fn_adam_step (F := F) main_v28 main_v47 main_v122_0 main_v122_1 main_v122_2 main_v122_3 main_v122_4).2.2.2.1
  let main_v130_4 : FVec F S_ .f32 := (fn_adam_step (F := F) main_v28 main_v47 main_v122_0 main_v122_1 main_v122_2 main_v122_3 main_v122_4).2.2.2.2
  let main_v131 : FVec F S512x512 .f32 := (transpose S512x512 [1, 0] · transposes_S512x512_S512x512_1_0) main_v130_0
  let main_v132 : FVec F S2048x512 .f32 := (fun l r => Host.dotGeneral dot_S2048x512_S512x512_S2048x512_1_0_0_1_n_n none l r) main_v28 main_v131
  let main_v133 : FVec F S2048x1 .f32 := fn_norm_1 (F := F) main_v132
  let main_cst_39 : FVec F S_ .f32 := constant S_ .f32 0x2B8CBCCC#32
  let main_v134 : FVec F S2048x1 .f32 := broadcastInDim S2048x1 ![] bcast_S_S2048x1 main_cst_39
  let main_v135 : IVec S2048x1 1 := cmpf .ogt main_v133 main_v134
  let main_c_40 : IVec S_ 1 := constantI S_ 1 1#1
  let main_v136 : IVec S_ 1 := (fun x v => Host.reduce IntOp.andi x v reducesTo_S2048x1_S_d0_1 h_S_) main_v135 main_c_40
  fn_part9 (F := F) main_v28 main_v47 main_v129 main_v130_0 main_v130_1 main_v130_2 main_v130_3 main_v130_4 main_v136

def fn_part7 {F : FTy → Type} [FloatOps F] (main_v28 : FVec F S2048x512 .f32) (main_v47 : FVec F S2048x2048 .f32) (main_v105 : IVec S_ 1) (main_v106_0 : FVec F S512x512 .f32) (main_v106_1 : FVec F S512x512 .f32) (main_v106_2 : FVec F S512x512 .f32) (main_v106_3 : FVec F S_ .f32) (main_v106_4 : FVec F S_ .f32) (main_v108 : FVec F S2048x512 .f32) : IVec S_ 1 :=
  let main_v109 : FVec F S2048x1 .f32 := fn_norm_1 (F := F) main_v108
  let main_cst_33 : FVec F S_ .f32 := constant S_ .f32 0x2B8CBCCC#32
  let main_v110 : FVec F S2048x1 .f32 := broadcastInDim S2048x1 ![] bcast_S_S2048x1 main_cst_33
  let main_v111 : IVec S2048x1 1 := cmpf .ogt main_v109 main_v110
  let main_c_34 : IVec S_ 1 := constantI S_ 1 1#1
  let main_v112 : IVec S_ 1 := (fun x v => Host.reduce IntOp.andi x v reducesTo_S2048x1_S_d0_1 h_S_) main_v111 main_c_34
  let main_v113 : IVec S_ 1 := andi main_v105 main_v112
  let main_v114_0 : FVec F S512x512 .f32 := (fn_adam_step (F := F) main_v28 main_v47 main_v106_0 main_v106_1 main_v106_2 main_v106_3 main_v106_4).1
  let main_v114_1 : FVec F S512x512 .f32 := (fn_adam_step (F := F) main_v28 main_v47 main_v106_0 main_v106_1 main_v106_2 main_v106_3 main_v106_4).2.1
  let main_v114_2 : FVec F S512x512 .f32 := (fn_adam_step (F := F) main_v28 main_v47 main_v106_0 main_v106_1 main_v106_2 main_v106_3 main_v106_4).2.2.1
  let main_v114_3 : FVec F S_ .f32 := (fn_adam_step (F := F) main_v28 main_v47 main_v106_0 main_v106_1 main_v106_2 main_v106_3 main_v106_4).2.2.2.1
  let main_v114_4 : FVec F S_ .f32 := (fn_adam_step (F := F) main_v28 main_v47 main_v106_0 main_v106_1 main_v106_2 main_v106_3 main_v106_4).2.2.2.2
  let main_v115 : FVec F S512x512 .f32 := (transpose S512x512 [1, 0] · transposes_S512x512_S512x512_1_0) main_v114_0
  let main_v116 : FVec F S2048x512 .f32 := (fun l r => Host.dotGeneral dot_S2048x512_S512x512_S2048x512_1_0_0_1_n_n none l r) main_v28 main_v115
  let main_v117 : FVec F S2048x1 .f32 := fn_norm_1 (F := F) main_v116
  let main_cst_35 : FVec F S_ .f32 := constant S_ .f32 0x2B8CBCCC#32
  let main_v118 : FVec F S2048x1 .f32 := broadcastInDim S2048x1 ![] bcast_S_S2048x1 main_cst_35
  let main_v119 : IVec S2048x1 1 := cmpf .ogt main_v117 main_v118
  let main_c_36 : IVec S_ 1 := constantI S_ 1 1#1
  let main_v120 : IVec S_ 1 := (fun x v => Host.reduce IntOp.andi x v reducesTo_S2048x1_S_d0_1 h_S_) main_v119 main_c_36
  let main_v121 : IVec S_ 1 := andi main_v113 main_v120
  let main_v122_0 : FVec F S512x512 .f32 := (fn_adam_step (F := F) main_v28 main_v47 main_v114_0 main_v114_1 main_v114_2 main_v114_3 main_v114_4).1
  let main_v122_1 : FVec F S512x512 .f32 := (fn_adam_step (F := F) main_v28 main_v47 main_v114_0 main_v114_1 main_v114_2 main_v114_3 main_v114_4).2.1
  let main_v122_2 : FVec F S512x512 .f32 := (fn_adam_step (F := F) main_v28 main_v47 main_v114_0 main_v114_1 main_v114_2 main_v114_3 main_v114_4).2.2.1
  fn_part8 (F := F) main_v28 main_v47 main_v114_0 main_v114_1 main_v114_2 main_v114_3 main_v114_4 main_v121 main_v122_0 main_v122_1 main_v122_2

def fn_part6 {F : FTy → Type} [FloatOps F] (main_v28 : FVec F S2048x512 .f32) (main_v47 : FVec F S2048x2048 .f32) (main_v89 : IVec S_ 1) (main_v90_0 : FVec F S512x512 .f32) (main_v90_1 : FVec F S512x512 .f32) (main_v90_2 : FVec F S512x512 .f32) (main_v90_3 : FVec F S_ .f32) (main_v90_4 : FVec F S_ .f32) (main_v95 : IVec S2048x1 1) : IVec S_ 1 :=
  let main_c_30 : IVec S_ 1 := constantI S_ 1 1#1
  let main_v96 : IVec S_ 1 := (fun x v => Host.reduce IntOp.andi x v reducesTo_S2048x1_S_d0_1 h_S_) main_v95 main_c_30
  let main_v97 : IVec S_ 1 := andi main_v89 main_v96
  let main_v98_0 : FVec F S512x512 .f32 := (fn_adam_step (F := F) main_v28 main_v47 main_v90_0 main_v90_1 main_v90_2 main_v90_3 main_v90_4).1
  let main_v98_1 : FVec F S512x512 .f32 := (fn_adam_step (F := F) main_v28 main_v47 main_v90_0 main_v90_1 main_v90_2 main_v90_3 main_v90_4).2.1
  let main_v98_2 : FVec F S512x512 .f32 := (fn_adam_step (F := F) main_v28 main_v47 main_v90_0 main_v90_1 main_v90_2 main_v90_3 main_v90_4).2.2.1
  let main_v98_3 : FVec F S_ .f32 := (fn_adam_step (F := F) main_v28 main_v47 main_v90_0 main_v90_1 main_v90_2 main_v90_3 main_v90_4).2.2.2.1
  let main_v98_4 : FVec F S_ .f32 := (fn_adam_step (F := F) main_v28 main_v47 main_v90_0 main_v90_1 main_v90_2 main_v90_3 main_v90_4).2.2.2.2
  let main_v99 : FVec F S512x512 .f32 := (transpose S512x512 [1, 0] · transposes_S512x512_S512x512_1_0) main_v98_0
  let main_v100 : FVec F S2048x512 .f32 := (fun l r => Host.dotGeneral dot_S2048x512_S512x512_S2048x512_1_0_0_1_n_n none l r) main_v28 main_v99
  let main_v101 : FVec F S2048x1 .f32 := fn_norm_1 (F := F) main_v100
  let main_cst_31 : FVec F S_ .f32 := constant S_ .f32 0x2B8CBCCC#32
  let main_v102 : FVec F S2048x1 .f32 := broadcastInDim S2048x1 ![] bcast_S_S2048x1 main_cst_31
  let main_v103 : IVec S2048x1 1 := cmpf .ogt main_v101 main_v102
  let main_c_32 : IVec S_ 1 := constantI S_ 1 1#1
  let main_v104 : IVec S_ 1 := (fun x v => Host.reduce IntOp.andi x v reducesTo_S2048x1_S_d0_1 h_S_) main_v103 main_c_32
  let main_v105 : IVec S_ 1 := andi main_v97 main_v104
  let main_v106_0 : FVec F S512x512 .f32 := (fn_adam_step (F := F) main_v28 main_v47 main_v98_0 main_v98_1 main_v98_2 main_v98_3 main_v98_4).1
  let main_v106_1 : FVec F S512x512 .f32 := (fn_adam_step (F := F) main_v28 main_v47 main_v98_0 main_v98_1 main_v98_2 main_v98_3 main_v98_4).2.1
  let main_v106_2 : FVec F S512x512 .f32 := (fn_adam_step (F := F) main_v28 main_v47 main_v98_0 main_v98_1 main_v98_2 main_v98_3 main_v98_4).2.2.1
  let main_v106_3 : FVec F S_ .f32 := (fn_adam_step (F := F) main_v28 main_v47 main_v98_0 main_v98_1 main_v98_2 main_v98_3 main_v98_4).2.2.2.1
  let main_v106_4 : FVec F S_ .f32 := (fn_adam_step (F := F) main_v28 main_v47 main_v98_0 main_v98_1 main_v98_2 main_v98_3 main_v98_4).2.2.2.2
  let main_v107 : FVec F S512x512 .f32 := (transpose S512x512 [1, 0] · transposes_S512x512_S512x512_1_0) main_v106_0
  let main_v108 : FVec F S2048x512 .f32 := (fun l r => Host.dotGeneral dot_S2048x512_S512x512_S2048x512_1_0_0_1_n_n none l r) main_v28 main_v107
  fn_part7 (F := F) main_v28 main_v47 main_v105 main_v106_0 main_v106_1 main_v106_2 main_v106_3 main_v106_4 main_v108

def fn_part5 {F : FTy → Type} [FloatOps F] (main_v28 : FVec F S2048x512 .f32) (main_v47 : FVec F S2048x2048 .f32) (main_v74_0 : FVec F S512x512 .f32) (main_v74_1 : FVec F S512x512 .f32) (main_v74_2 : FVec F S512x512 .f32) (main_v74_3 : FVec F S_ .f32) (main_v74_4 : FVec F S_ .f32) (main_v81 : IVec S_ 1) (main_v82_0 : FVec F S512x512 .f32) : IVec S_ 1 :=
  let main_v82_1 : FVec F S512x512 .f32 := (fn_adam_step (F := F) main_v28 main_v47 main_v74_0 main_v74_1 main_v74_2 main_v74_3 main_v74_4).2.1
  let main_v82_2 : FVec F S512x512 .f32 := (fn_adam_step (F := F) main_v28 main_v47 main_v74_0 main_v74_1 main_v74_2 main_v74_3 main_v74_4).2.2.1
  let main_v82_3 : FVec F S_ .f32 := (fn_adam_step (F := F) main_v28 main_v47 main_v74_0 main_v74_1 main_v74_2 main_v74_3 main_v74_4).2.2.2.1
  let main_v82_4 : FVec F S_ .f32 := (fn_adam_step (F := F) main_v28 main_v47 main_v74_0 main_v74_1 main_v74_2 main_v74_3 main_v74_4).2.2.2.2
  let main_v83 : FVec F S512x512 .f32 := (transpose S512x512 [1, 0] · transposes_S512x512_S512x512_1_0) main_v82_0
  let main_v84 : FVec F S2048x512 .f32 := (fun l r => Host.dotGeneral dot_S2048x512_S512x512_S2048x512_1_0_0_1_n_n none l r) main_v28 main_v83
  let main_v85 : FVec F S2048x1 .f32 := fn_norm_1 (F := F) main_v84
  let main_cst_27 : FVec F S_ .f32 := constant S_ .f32 0x2B8CBCCC#32
  let main_v86 : FVec F S2048x1 .f32 := broadcastInDim S2048x1 ![] bcast_S_S2048x1 main_cst_27
  let main_v87 : IVec S2048x1 1 := cmpf .ogt main_v85 main_v86
  let main_c_28 : IVec S_ 1 := constantI S_ 1 1#1
  let main_v88 : IVec S_ 1 := (fun x v => Host.reduce IntOp.andi x v reducesTo_S2048x1_S_d0_1 h_S_) main_v87 main_c_28
  let main_v89 : IVec S_ 1 := andi main_v81 main_v88
  let main_v90_0 : FVec F S512x512 .f32 := (fn_adam_step (F := F) main_v28 main_v47 main_v82_0 main_v82_1 main_v82_2 main_v82_3 main_v82_4).1
  let main_v90_1 : FVec F S512x512 .f32 := (fn_adam_step (F := F) main_v28 main_v47 main_v82_0 main_v82_1 main_v82_2 main_v82_3 main_v82_4).2.1
  let main_v90_2 : FVec F S512x512 .f32 := (fn_adam_step (F := F) main_v28 main_v47 main_v82_0 main_v82_1 main_v82_2 main_v82_3 main_v82_4).2.2.1
  let main_v90_3 : FVec F S_ .f32 := (fn_adam_step (F := F) main_v28 main_v47 main_v82_0 main_v82_1 main_v82_2 main_v82_3 main_v82_4).2.2.2.1
  let main_v90_4 : FVec F S_ .f32 := (fn_adam_step (F := F) main_v28 main_v47 main_v82_0 main_v82_1 main_v82_2 main_v82_3 main_v82_4).2.2.2.2
  let main_v91 : FVec F S512x512 .f32 := (transpose S512x512 [1, 0] · transposes_S512x512_S512x512_1_0) main_v90_0
  let main_v92 : FVec F S2048x512 .f32 := (fun l r => Host.dotGeneral dot_S2048x512_S512x512_S2048x512_1_0_0_1_n_n none l r) main_v28 main_v91
  let main_v93 : FVec F S2048x1 .f32 := fn_norm_1 (F := F) main_v92
  let main_cst_29 : FVec F S_ .f32 := constant S_ .f32 0x2B8CBCCC#32
  let main_v94 : FVec F S2048x1 .f32 := broadcastInDim S2048x1 ![] bcast_S_S2048x1 main_cst_29
  let main_v95 : IVec S2048x1 1 := cmpf .ogt main_v93 main_v94
  fn_part6 (F := F) main_v28 main_v47 main_v89 main_v90_0 main_v90_1 main_v90_2 main_v90_3 main_v90_4 main_v95

def fn_part4 {F : FTy → Type} [FloatOps F] (main_v28 : FVec F S2048x512 .f32) (main_v47 : FVec F S2048x2048 .f32) (main_v65 : IVec S_ 1) (main_v66_0 : FVec F S512x512 .f32) (main_v66_1 : FVec F S512x512 .f32) (main_v66_2 : FVec F S512x512 .f32) (main_v66_3 : FVec F S_ .f32) (main_v66_4 : FVec F S_ .f32) : IVec S_ 1 :=
  let main_v67 : FVec F S512x512 .f32 := (transpose S512x512 [1, 0] · transposes_S512x512_S512x512_1_0) main_v66_0
  let main_v68 : FVec F S2048x512 .f32 := (fun l r => Host.dotGeneral dot_S2048x512_S512x512_S2048x512_1_0_0_1_n_n none l r) main_v28 main_v67
  let main_v69 : FVec F S2048x1 .f32 := fn_norm_1 (F := F) main_v68
  let main_cst_23 : FVec F S_ .f32 := constant S_ .f32 0x2B8CBCCC#32
  let main_v70 : FVec F S2048x1 .f32 := broadcastInDim S2048x1 ![] bcast_S_S2048x1 main_cst_23
  let main_v71 : IVec S2048x1 1 := cmpf .ogt main_v69 main_v70
  let main_c_24 : IVec S_ 1 := constantI S_ 1 1#1
  let main_v72 : IVec S_ 1 := (fun x v => Host.reduce IntOp.andi x v reducesTo_S2048x1_S_d0_1 h_S_) main_v71 main_c_24
  let main_v73 : IVec S_ 1 := andi main_v65 main_v72
  let main_v74_0 : FVec F S512x512 .f32 := (fn_adam_step (F := F) main_v28 main_v47 main_v66_0 main_v66_1 main_v66_2 main_v66_3 main_v66_4).1
  let main_v74_1 : FVec F S512x512 .f32 := (fn_adam_step (F := F) main_v28 main_v47 main_v66_0 main_v66_1 main_v66_2 main_v66_3 main_v66_4).2.1
  let main_v74_2 : FVec F S512x512 .f32 := (fn_adam_step (F := F) main_v28 main_v47 main_v66_0 main_v66_1 main_v66_2 main_v66_3 main_v66_4).2.2.1
  let main_v74_3 : FVec F S_ .f32 := (fn_adam_step (F := F) main_v28 main_v47 main_v66_0 main_v66_1 main_v66_2 main_v66_3 main_v66_4).2.2.2.1
  let main_v74_4 : FVec F S_ .f32 := (fn_adam_step (F := F) main_v28 main_v47 main_v66_0 main_v66_1 main_v66_2 main_v66_3 main_v66_4).2.2.2.2
  let main_v75 : FVec F S512x512 .f32 := (transpose S512x512 [1, 0] · transposes_S512x512_S512x512_1_0) main_v74_0
  let main_v76 : FVec F S2048x512 .f32 := (fun l r => Host.dotGeneral dot_S2048x512_S512x512_S2048x512_1_0_0_1_n_n none l r) main_v28 main_v75
  let main_v77 : FVec F S2048x1 .f32 := fn_norm_1 (F := F) main_v76
  let main_cst_25 : FVec F S_ .f32 := constant S_ .f32 0x2B8CBCCC#32
  let main_v78 : FVec F S2048x1 .f32 := broadcastInDim S2048x1 ![] bcast_S_S2048x1 main_cst_25
  let main_v79 : IVec S2048x1 1 := cmpf .ogt main_v77 main_v78
  let main_c_26 : IVec S_ 1 := constantI S_ 1 1#1
  let main_v80 : IVec S_ 1 := (fun x v => Host.reduce IntOp.andi x v reducesTo_S2048x1_S_d0_1 h_S_) main_v79 main_c_26
  let main_v81 : IVec S_ 1 := andi main_v73 main_v80
  let main_v82_0 : FVec F S512x512 .f32 := (fn_adam_step (F := F) main_v28 main_v47 main_v74_0 main_v74_1 main_v74_2 main_v74_3 main_v74_4).1
  fn_part5 (F := F) main_v28 main_v47 main_v74_0 main_v74_1 main_v74_2 main_v74_3 main_v74_4 main_v81 main_v82_0

def fn_part3 {F : FTy → Type} [FloatOps F] (main_v28 : FVec F S2048x512 .f32) (main_v42 : FVec F S_ .f32) (main_v44 : IVec S_ 1) (main_v47 : FVec F S2048x2048 .f32) (main_v53 : FVec F S512x512 .f32) : IVec S_ 1 :=
  let main_cst_16 : FVec F S_ .f32 := constant S_ .f32 0x00000000#32
  let main_v54 : FVec F S512x512 .f32 := broadcastInDim S512x512 ![] bcast_S_S512x512 main_cst_16
  let main_cst_17 : FVec F S_ .f32 := constant S_ .f32 0x00000000#32
  let main_v55 : FVec F S512x512 .f32 := broadcastInDim S512x512 ![] bcast_S_S512x512 main_cst_17
  let main_cst_18 : FVec F S_ .f32 := constant S_ .f32 0x00000000#32
  let main_v56 : FVec F S_ .f32 := mulf main_cst_18 main_v42
  let main_v57 : FVec F S512x512 .f32 := broadcastInDim S512x512 ![] bcast_S_S512x512 main_v56
  let main_v58 : FVec F S512x512 .f32 := addf main_v53 main_v57
  let main_v59 : FVec F S512x512 .f32 := (transpose S512x512 [1, 0] · transposes_S512x512_S512x512_1_0) main_v58
  let main_v60 : FVec F S2048x512 .f32 := (fun l r => Host.dotGeneral dot_S2048x512_S512x512_S2048x512_1_0_0_1_n_n none l r) main_v28 main_v59
  let main_v61 : FVec F S2048x1 .f32 := fn_norm_1 (F := F) main_v60
  let main_cst_19 : FVec F S_ .f32 := constant S_ .f32 0x2B8CBCCC#32
  let main_v62 : FVec F S2048x1 .f32 := broadcastInDim S2048x1 ![] bcast_S_S2048x1 main_cst_19
  let main_v63 : IVec S2048x1 1 := cmpf .ogt main_v61 main_v62
  let main_c_20 : IVec S_ 1 := constantI S_ 1 1#1
  let main_v64 : IVec S_ 1 := (fun x v => Host.reduce IntOp.andi x v reducesTo_S2048x1_S_d0_1 h_S_) main_v63 main_c_20
  let main_v65 : IVec S_ 1 := andi main_v44 main_v64
  let main_cst_21 : FVec F S_ .f32 := constant S_ .f32 0x3F800000#32
  let main_cst_22 : FVec F S_ .f32 := constant S_ .f32 0x3F800000#32
  let main_v66_0 : FVec F S512x512 .f32 := (fn_adam_step (F := F) main_v28 main_v47 main_v58 main_v54 main_v55 main_cst_21 main_cst_22).1
  let main_v66_1 : FVec F S512x512 .f32 := (fn_adam_step (F := F) main_v28 main_v47 main_v58 main_v54 main_v55 main_cst_21 main_cst_22).2.1
  let main_v66_2 : FVec F S512x512 .f32 := (fn_adam_step (F := F) main_v28 main_v47 main_v58 main_v54 main_v55 main_cst_21 main_cst_22).2.2.1
  let main_v66_3 : FVec F S_ .f32 := (fn_adam_step (F := F) main_v28 main_v47 main_v58 main_v54 main_v55 main_cst_21 main_cst_22).2.2.2.1
  let main_v66_4 : FVec F S_ .f32 := (fn_adam_step (F := F) main_v28 main_v47 main_v58 main_v54 main_v55 main_cst_21 main_cst_22).2.2.2.2
  fn_part4 (F := F) main_v28 main_v47 main_v65 main_v66_0 main_v66_1 main_v66_2 main_v66_3 main_v66_4

def fn_part2 {F : FTy → Type} [FloatOps F] (main_v24 : IVec S_ 1) (main_v28 : FVec F S2048x512 .f32) (main_v34 : IVec S2048x2048 1) (main_cst_9 : FVec F S_ .f32) (main_cst_10 : FVec F S_ .f32) : IVec S_ 1 :=
  let main_v35 : FVec F S2048x2048 .f32 := fn_where (F := F) main_v34 main_cst_9 main_cst_10
  let main_cst_11 : FVec F S_ .f32 := constant S_ .f32 0x40000000#32
  let main_v36 : FVec F S2048x2048 .f32 := broadcastInDim S2048x2048 ![] bcast_S_S2048x2048 main_cst_11
  let main_v37 : FVec F S2048x2048 .f32 := mulf main_v35 main_v36
  let main_cst_12 : FVec F S_ .f32 := constant S_ .f32 0x3F800000#32
  let main_v38 : FVec F S2048x2048 .f32 := broadcastInDim S2048x2048 ![] bcast_S_S2048x2048 main_cst_12
  let main_v39 : FVec F S2048x2048 .f32 := subf main_v37 main_v38
  let main_v40 : FVec F S2048x2048 .f32 := fn_triu (F := F) main_v39
  let main_v41 : FVec F S2048x2048 .f32 := id main_v40
  let main_cst_13 : FVec F S_ .f32 := constant S_ .f32 0x00000000#32
  let main_v42 : FVec F S_ .f32 := (fun x v => Host.reduceAdd x v reducesTo_S2048x2048_S_d0_1 h_S_) main_v41 main_cst_13
  let main_cst_14 : FVec F S_ .f32 := constant S_ .f32 0x00000000#32
  let main_v43 : IVec S_ 1 := cmpf .une main_v42 main_cst_14
  let main_v44 : IVec S_ 1 := andi main_v24 main_v43
  let main_v45 : FVec F S2048x2048 .f32 := id main_v40
  let main_v46 : FVec F S2048x2048 .f32 := broadcastInDim S2048x2048 ![] bcast_S_S2048x2048 main_v42
  let main_v47 : FVec F S2048x2048 .f32 := Host.divf main_v45 main_v46
  let main_v48 : IVec S512x512 32 := iotaInDim S512x512 32 0
  let main_v49 : IVec S512x512 32 := iotaInDim S512x512 32 1
  let main_c_15 : IVec S_ 32 := constantI S_ 32 0#32
  let main_v50 : IVec S512x512 32 := broadcastInDim S512x512 ![] bcast_S_S512x512 main_c_15
  let main_v51 : IVec S512x512 32 := addi main_v48 main_v50
  let main_v52 : IVec S512x512 1 := cmpi .eq main_v51 main_v49
  let main_v53 : FVec F S512x512 .f32 := uitofp .f32 main_v52
  fn_part3 (F := F) main_v28 main_v42 main_v44 main_v47 main_v53

def fn_part1 {F : FTy → Type} [FloatOps F] (main_arg0 : FVec F S2048x512 .f32) (main_arg1 : IVec S2048 32) (main_v0 : FVec F S2048x1 .f32) (main_v1 : FVec F S4096x1 .f32) (main_v14 : IVec S_ 1) (main_v16 : IVec S4096x1 1) : IVec S_ 1 :=
  let main_cst_5 : FVec F S_ .f32 := constant S_ .f32 0x2B8CBCCC#32
  let main_v17 : FVec F S4096x1 .f32 := broadcastInDim S4096x1 ![] bcast_S_S4096x1 main_cst_5
  let main_v18 : IVec S4096x1 1 := cmpf .oge main_v1 main_v17
  let main_v19 : IVec S4096x1 1 := ori main_v16 main_v18
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v1 main_v20
  let main_v22 : IVec S4096x1 1 := andi main_v19 main_v21
  let main_c_7 : IVec S_ 1 := constantI S_ 1 1#1
  let main_v23 : IVec S_ 1 := (fun x v => Host.reduce IntOp.andi x v reducesTo_S4096x1_S_d0_1 h_S_) main_v22 main_c_7
  let main_v24 : IVec S_ 1 := andi main_v14 main_v23
  let main_cst_8 : FVec F S_ .f32 := constant S_ .f32 0x2B8CBCCC#32
  let main_v25 : FVec F S2048x1 .f32 := broadcastInDim S2048x1 ![] bcast_S_S2048x1 main_cst_8
  let main_v26 : FVec F S2048x1 .f32 := maximumf main_v0 main_v25
  let main_v27 : FVec F S2048x512 .f32 := broadcastInDim S2048x512 ![0, 1] bcast_S2048x1_S2048x512_0_1 main_v26
  let main_v28 : FVec F S2048x512 .f32 := Host.divf main_arg0 main_v27
  let main_v29 : IVec S1x2048 32 := broadcastInDim S1x2048 ![1] bcast_S2048_S1x2048_1 main_arg1
  let main_v30 : IVec S1x1x1x2048 32 := shapeCast S1x1x1x2048 main_v29 shapeCasts_S1x2048_S1x1x1x2048
  let main_v31 : IVec S2048x1x1x2048 32 := broadcastInDim S2048x1x1x2048 ![0, 1, 2, 3] bcast_S1x1x1x2048_S2048x1x1x2048_0_1_2_3 main_v30
  let main_v32 : IVec S2048x2048 32 := shapeCast S2048x2048 main_v31 shapeCasts_S2048x1x1x2048_S2048x2048
  let main_v33 : IVec S2048x2048 32 := (transpose S2048x2048 [1, 0] · transposes_S2048x2048_S2048x2048_1_0) main_v32
  let main_v34 : IVec S2048x2048 1 := cmpi .eq main_v32 main_v33
  let main_cst_9 : FVec F S_ .f32 := constant S_ .f32 0x00000000#32
  let main_cst_10 : FVec F S_ .f32 := constant S_ .f32 0x3F800000#32
  fn_part2 (F := F) main_v24 main_v28 main_v34 main_cst_9 main_cst_10

def fn {F : FTy → Type} [FloatOps F] (main_arg0 : FVec F S2048x512 .f32) (main_arg1 : IVec S2048 32) (main_arg2 : FVec F S4096x512 .f32) (main_arg3 : IVec S4096 32) : IVec S_ 1 :=
  let main_v0 : FVec F S2048x1 .f32 := fn_norm (F := F) main_arg0
  let main_v1 : FVec F S4096x1 .f32 := fn_norm_0 (F := F) main_arg2
  let main_c : IVec S_ 32 := constantI S_ 32 0#32
  let main_v2 : IVec S2048 32 := broadcastInDim S2048 ![] bcast_S_S2048 main_c
  let main_v3 : IVec S2048 1 := cmpi .sge main_arg1 main_v2
  let main_c_0 : IVec S_ 32 := constantI S_ 32 64#32
  let main_v4 : IVec S2048 32 := broadcastInDim S2048 ![] bcast_S_S2048 main_c_0
  let main_v5 : IVec S2048 1 := cmpi .slt main_arg1 main_v4
  let main_v6 : IVec S2048 1 := andi main_v3 main_v5
  let main_c_1 : IVec S_ 1 := constantI S_ 1 1#1
  let main_v7 : IVec S_ 1 := (fun x v => Host.reduce IntOp.andi x v reducesTo_S2048_S_d0 h_S_) main_v6 main_c_1
  let main_cst : FVec F S_ .f32 := constant S_ .f32 0x2B8CBCCC#32
  let main_v8 : FVec F S2048x1 .f32 := broadcastInDim S2048x1 ![] bcast_S_S2048x1 main_cst
  let main_v9 : IVec S2048x1 1 := cmpf .oge main_v0 main_v8
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v0 main_v10
  let main_v12 : IVec S2048x1 1 := andi main_v9 main_v11
  let main_c_3 : IVec S_ 1 := constantI S_ 1 1#1
  let main_v13 : IVec S_ 1 := (fun x v => Host.reduce IntOp.andi x v reducesTo_S2048x1_S_d0_1 h_S_) main_v12 main_c_3
  let main_v14 : IVec S_ 1 := andi main_v7 main_v13
  let main_cst_4 : FVec F S_ .f32 := constant S_ .f32 0x00000000#32
  let main_v15 : FVec F S4096x1 .f32 := broadcastInDim S4096x1 ![] bcast_S_S4096x1 main_cst_4
  let main_v16 : IVec S4096x1 1 := cmpf .oeq main_v1 main_v15
  fn_part1 (F := F) main_arg0 main_arg1 main_v0 main_v1 main_v14 main_v16
-- ==== Kernel.lean ====
abbrev S2048x512 : Shape := ⟨2, ![2048, 512]⟩
abbrev S2048 : Shape := ⟨1, ![2048]⟩
abbrev S4096x512 : Shape := ⟨2, ![4096, 512]⟩
abbrev S4096 : Shape := ⟨1, ![4096]⟩
abbrev S2048x1 : Shape := ⟨2, ![2048, 1]⟩
abbrev S512x512 : Shape := ⟨2, ![512, 512]⟩
abbrev S8x128 : Shape := ⟨2, ![8, 128]⟩
abbrev S2048x64 : Shape := ⟨2, ![2048, 64]⟩
abbrev S64 : Shape := ⟨1, ![64]⟩
abbrev S1x64 : Shape := ⟨2, ![1, 64]⟩
abbrev S1x1x64 : Shape := ⟨3, ![1, 1, 64]⟩
abbrev S1 : Shape := ⟨1, ![1]⟩
abbrev S1x1x1 : Shape := ⟨3, ![1, 1, 1]⟩
abbrev S64x512 : Shape := ⟨2, ![64, 512]⟩
abbrev S512 : Shape := ⟨1, ![512]⟩
abbrev S1x512 : Shape := ⟨2, ![1, 512]⟩
abbrev S1x2048 : Shape := ⟨2, ![1, 2048]⟩
abbrev S4096x1 : Shape := ⟨2, ![4096, 1]⟩
abbrev S1024x512 : Shape := ⟨2, ![1024, 512]⟩
abbrev S1024x1 : Shape := ⟨2, ![1024, 1]⟩
abbrev S1024 : Shape := ⟨1, ![1024]⟩
abbrev S1024x2048 : Shape := ⟨2, ![1024, 2048]⟩
abbrev S1024x128 : Shape := ⟨2, ![1024, 128]⟩
abbrev S1024x384 : Shape := ⟨2, ![1024, 384]⟩

abbrev nBuf : Space → Nat
  | .hbm => 12
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S4096x512, .f32⟩
  | .hbm, ⟨3, _⟩ => ⟨S4096, .i32⟩
  | .hbm, ⟨4, _⟩ => ⟨S2048x1, .i32⟩
  | .hbm, ⟨5, _⟩ => ⟨S512x512, .f32⟩
  | .hbm, ⟨6, _⟩ => ⟨S512x512, .f32⟩
  | .hbm, ⟨7, _⟩ => ⟨S2048x512, .f32⟩
  | .hbm, ⟨8, _⟩ => ⟨S2048x1, .f32⟩
  | .hbm, ⟨9, _⟩ => ⟨S1x2048, .f32⟩
  | .hbm, ⟨10, _⟩ => ⟨S4096x1, .f32⟩
  | .hbm, ⟨11, _⟩ => ⟨S4096, .f32⟩
  | .local _ .vmem, ⟨0, _⟩ => ⟨S2048x512, .f32⟩
  | .local _ .vmem, ⟨1, _⟩ => ⟨S2048x1, .i32⟩
  | .local _ .vmem, ⟨2, _⟩ => ⟨S512x512, .f32⟩
  | .local _ .vmem, ⟨3, _⟩ => ⟨S512x512, .f32⟩
  | .local _ .vmem, ⟨4, _⟩ => ⟨S2048x512, .f32⟩
  | .local _ .vmem, ⟨5, _⟩ => ⟨S2048x1, .f32⟩
  | .local _ .vmem, ⟨6, _⟩ => ⟨S8x128, .f32⟩
  | .local _ .vmem, ⟨7, _⟩ => ⟨S1024x512, .f32⟩
  | .local _ .vmem, ⟨8, _⟩ => ⟨S1024x512, .f32⟩
  | .local _ .vmem, ⟨9, _⟩ => ⟨S512x512, .f32⟩
  | .local _ .vmem, ⟨10, _⟩ => ⟨S2048x512, .f32⟩
  | .local _ .vmem, ⟨11, _⟩ => ⟨S1x2048, .f32⟩
  | .local _ .vmem, ⟨12, _⟩ => ⟨S1024x1, .f32⟩
  | .local _ .vmem, ⟨13, _⟩ => ⟨S1024x1, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := .none

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F] [Named F]
def κ : String → Option EReal := fun
  | "a1" => some (((1 / 100) * (Real.sqrt (1 / 1000)) : ℝ) : EReal)
  | "a10" => some (((10000000 / 6513215599) * (Real.sqrt (9955119790251790119955009999 / 1000000000000000000000000000000)) : ℝ) : EReal)
  | "a2" => some (((1 / 190) * (Real.sqrt (1999 / 1000000)) : ℝ) : EReal)
  | "a3" => some (((1 / 271) * (Real.sqrt (2997001 / 1000000000)) : ℝ) : EReal)
  | "a4" => some (((10 / 3439) * (Real.sqrt (3994003999 / 1000000000000)) : ℝ) : EReal)
  | "a5" => some (((100 / 40951) * (Real.sqrt (4990009995001 / 1000000000000000)) : ℝ) : EReal)
  | "a6" => some (((1000 / 468559) * (Real.sqrt (5985019985005999 / 1000000000000000000)) : ℝ) : EReal)
  | "a7" => some (((10000 / 5217031) * (Real.sqrt (6979034965020993001 / 1000000000000000000000)) : ℝ) : EReal)
  | "a8" => some (((100000 / 56953279) * (Real.sqrt (7972055930055972007999 / 1000000000000000000000000)) : ℝ) : EReal)
  | "a9" => some (((1000000 / 612579511) * (Real.sqrt (8964083874125916035991001 / 1000000000000000000000000000)) : ℝ) : EReal)
  | "e1" => some (((1 / 100000000) * (Real.sqrt (1 / 1000)) : ℝ) : EReal)
  | "e10" => some (((1 / 100000000) * (Real.sqrt (9955119790251790119955009999 / 1000000000000000000000000000000)) : ℝ) : EReal)
  | "e2" => some (((1 / 100000000) * (Real.sqrt (1999 / 1000000)) : ℝ) : EReal)
  | "e3" => some (((1 / 100000000) * (Real.sqrt (2997001 / 1000000000)) : ℝ) : EReal)
  | "e4" => some (((1 / 100000000) * (Real.sqrt (3994003999 / 1000000000000)) : ℝ) : EReal)
  | "e5" => some (((1 / 100000000) * (Real.sqrt (4990009995001 / 1000000000000000)) : ℝ) : EReal)
  | "e6" => some (((1 / 100000000) * (Real.sqrt (5985019985005999 / 1000000000000000000)) : ℝ) : EReal)
  | "e7" => some (((1 / 100000000) * (Real.sqrt (6979034965020993001 / 1000000000000000000000)) : ℝ) : EReal)
  | "e8" => some (((1 / 100000000) * (Real.sqrt (7972055930055972007999 / 1000000000000000000000000)) : ℝ) : EReal)
  | "e9" => some (((1 / 100000000) * (Real.sqrt (8964083874125916035991001 / 1000000000000000000000000000)) : ℝ) : EReal)
  | "third" => some ((1 / 3 : ℝ) : EReal)
  | _ => none
-- ==== ReferenceIdeal.lean ====
abbrev S2048x512 : Shape := ⟨2, ![2048, 512]⟩
abbrev S2048 : Shape := ⟨1, ![2048]⟩
abbrev S4096x512 : Shape := ⟨2, ![4096, 512]⟩
abbrev S4096 : Shape := ⟨1, ![4096]⟩
abbrev S_ : Shape := ⟨0, ![]⟩
abbrev S2048x1 : Shape := ⟨2, ![2048, 1]⟩
abbrev S1x2048 : Shape := ⟨2, ![1, 2048]⟩
abbrev S1x1x1x2048 : Shape := ⟨4, ![1, 1, 1, 2048]⟩
abbrev S2048x1x1x2048 : Shape := ⟨4, ![2048, 1, 1, 2048]⟩
abbrev S2048x2048 : Shape := ⟨2, ![2048, 2048]⟩
abbrev S512x512 : Shape := ⟨2, ![512, 512]⟩
abbrev S512x2048 : Shape := ⟨2, ![512, 2048]⟩
abbrev S4096x1 : Shape := ⟨2, ![4096, 1]⟩
abbrev S4096x2048 : Shape := ⟨2, ![4096, 2048]⟩
abbrev S4096x3 : Shape := ⟨2, ![4096, 3]⟩

abbrev nBuf : Space → Nat
  | .hbm => 244
  | .vmem => 0
  | .smem => 0
  | _ => 0

abbrev hbmTy0_0 (i : Nat) : BufTy := match i % 128 with
  | 0 => ⟨S2048x512, .f32⟩
  | 1 => ⟨S2048, .i32⟩
  | 2 => ⟨S4096x512, .f32⟩
  | 3 => ⟨S4096, .i32⟩
  | 4 => ⟨S2048x512, .f32⟩
  | 5 => ⟨S_, .f32⟩
  | 6 => ⟨S2048, .f32⟩
  | 7 => ⟨S2048x1, .f32⟩
  | 8 => ⟨S2048x1, .f32⟩
  | 9 => ⟨S_, .f32⟩
  | 10 => ⟨S2048x1, .f32⟩
  | 11 => ⟨S2048x1, .f32⟩
  | 12 => ⟨S2048x512, .f32⟩
  | 13 => ⟨S2048x512, .f32⟩
  | 14 => ⟨S1x2048, .i32⟩
  | 15 => ⟨S1x1x1x2048, .i32⟩
  | 16 => ⟨S2048x1x1x2048, .i32⟩
  | 17 => ⟨S2048x2048, .i32⟩
  | 18 => ⟨S2048x2048, .i32⟩
  | 19 => ⟨S2048x2048, .i1⟩
  | 20 => ⟨S_, .f32⟩
  | 21 => ⟨S_, .f32⟩
  | 22 => ⟨S2048x2048, .f32⟩
  | 23 => ⟨S2048x2048, .f32⟩
  | 24 => ⟨S2048x2048, .f32⟩
  | 25 => ⟨S_, .f32⟩
  | 26 => ⟨S2048x2048, .f32⟩
  | 27 => ⟨S2048x2048, .f32⟩
  | 28 => ⟨S_, .f32⟩
  | 29 => ⟨S2048x2048, .f32⟩
  | 30 => ⟨S2048x2048, .f32⟩
  | 31 => ⟨S2048x2048, .i32⟩
  | 32 => ⟨S_, .i32⟩
  | 33 => ⟨S2048x2048, .i32⟩
  | 34 => ⟨S2048x2048, .i32⟩
  | 35 => ⟨S2048x2048, .i32⟩
  | 36 => ⟨S2048x2048, .i1⟩
  | 37 => ⟨S_, .f32⟩
  | 38 => ⟨S2048x2048, .f32⟩
  | 39 => ⟨S2048x2048, .f32⟩
  | 40 => ⟨S2048x2048, .f32⟩
  | 41 => ⟨S_, .f32⟩
  | 42 => ⟨S_, .f32⟩
  | 43 => ⟨S2048x2048, .f32⟩
  | 44 => ⟨S2048x2048, .f32⟩
  | 45 => ⟨S2048x2048, .f32⟩
  | 46 => ⟨S512x512, .i32⟩
  | 47 => ⟨S512x512, .i32⟩
  | 48 => ⟨S_, .i32⟩
  | 49 => ⟨S512x512, .i32⟩
  | 50 => ⟨S512x512, .i32⟩
  | 51 => ⟨S512x512, .i1⟩
  | 52 => ⟨S512x512, .f32⟩
  | 53 => ⟨S_, .f32⟩
  | 54 => ⟨S512x512, .f32⟩
  | 55 => ⟨S_, .f32⟩
  | 56 => ⟨S512x512, .f32⟩
  | 57 => ⟨S_, .i32⟩
  | 58 => ⟨S_, .f32⟩
  | 59 => ⟨S_, .f32⟩
  | 60 => ⟨S_, .i32⟩
  | 61 => ⟨S2048x512, .f32⟩
  | 62 => ⟨S2048x2048, .f32⟩
  | 63 => ⟨S_, .i32⟩
  | 64 => ⟨S_, .i32⟩
  | 65 => ⟨S512x512, .f32⟩
  | 66 => ⟨S512x512, .f32⟩
  | 67 => ⟨S512x512, .f32⟩
  | 68 => ⟨S_, .f32⟩
  | 69 => ⟨S_, .f32⟩
  | 70 => ⟨S_, .i32⟩
  | 71 => ⟨S_, .i1⟩
  | 72 => ⟨S_, .i32⟩
  | 73 => ⟨S_, .i32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S512x512, .f32⟩
  | 89 => ⟨S2048x512, .f32⟩
  | 90 => ⟨S2048x512, .f32⟩
  | 91 => ⟨S_, .f32⟩
  | 92 => ⟨S2048, .f32⟩
  | 93 => ⟨S2048x1, .f32⟩
  | 94 => ⟨S2048x1, .f32⟩
  | 95 => ⟨S_, .f32⟩
  | 96 => ⟨S2048x1, .f32⟩
  | 97 => ⟨S2048x1, .f32⟩
  | 98 => ⟨S_, .f32⟩
  | 99 => ⟨S2048x1, .f32⟩
  | 100 => ⟨S2048x1, .f32⟩
  | 101 => ⟨S_, .f32⟩
  | 102 => ⟨S2048x1, .f32⟩
  | 103 => ⟨S2048x1, .i1⟩
  | 104 => ⟨S_, .f32⟩
  | 105 => ⟨S2048x1, .f32⟩
  | 106 => ⟨S2048x1, .i1⟩
  | 107 => ⟨S_, .f32⟩
  | 108 => ⟨S2048x1, .f32⟩
  | 109 => ⟨S_, .f32⟩
  | 110 => ⟨S2048x1, .f32⟩
  | 111 => ⟨S_, .f32⟩
  | 112 => ⟨S2048x1, .f32⟩
  | 113 => ⟨S2048x1, .f32⟩
  | 114 => ⟨S2048x1, .f32⟩
  | 115 => ⟨S2048x512, .f32⟩
  | 116 => ⟨S2048x512, .f32⟩
  | 117 => ⟨S2048x1, .f32⟩
  | 118 => ⟨S_, .f32⟩
  | 119 => ⟨S2048x1, .f32⟩
  | 120 => ⟨S2048x1, .f32⟩
  | 121 => ⟨S512x2048, .f32⟩
  | 122 => ⟨S2048x2048, .f32⟩
  | 123 => ⟨S2048x2048, .f32⟩
  | 124 => ⟨S_, .f32⟩
  | 125 => ⟨S_, .f32⟩
  | 126 => ⟨S_, .f32⟩
  | 127 => ⟨S2048x2048, .f32⟩
  | _ => ⟨S2048x512, .f32⟩

abbrev hbmTy0_1 (i : Nat) : BufTy := match i % 128 with
  | 0 => ⟨S2048x2048, .f32⟩
  | 1 => ⟨S2048x512, .f32⟩
  | 2 => ⟨S512x2048, .f32⟩
  | 3 => ⟨S2048x512, .f32⟩
  | 4 => ⟨S2048x512, .f32⟩
  | 5 => ⟨S2048x512, .f32⟩
  | 6 => ⟨S2048x512, .f32⟩
  | 7 => ⟨S2048x512, .f32⟩
  | 8 => ⟨S2048x512, .f32⟩
  | 9 => ⟨S_, .f32⟩
  | 10 => ⟨S2048, .f32⟩
  | 11 => ⟨S2048x1, .f32⟩
  | 12 => ⟨S2048x1, .f32⟩
  | 13 => ⟨S2048x512, .f32⟩
  | 14 => ⟨S2048x512, .f32⟩
  | 15 => ⟨S2048x1, .f32⟩
  | 16 => ⟨S2048x1, .f32⟩
  | 17 => ⟨S_, .f32⟩
  | 18 => ⟨S2048, .f32⟩
  | 19 => ⟨S2048x512, .f32⟩
  | 20 => ⟨S2048x512, .f32⟩
  | 21 => ⟨S2048x512, .f32⟩
  | 22 => ⟨S2048x512, .f32⟩
  | 23 => ⟨S2048x512, .f32⟩
  | 24 => ⟨S512x512, .f32⟩
  | 25 => ⟨S512x512, .f32⟩
  | 26 => ⟨S512x512, .f32⟩
  | 27 => ⟨S_, .f32⟩
  | 28 => ⟨S512x512, .f32⟩
  | 29 => ⟨S512x512, .f32⟩
  | 30 => ⟨S_, .f32⟩
  | 31 => ⟨S512x512, .f32⟩
  | 32 => ⟨S512x512, .f32⟩
  | 33 => ⟨S512x512, .f32⟩
  | 34 => ⟨S_, .f32⟩
  | 35 => ⟨S512x512, .f32⟩
  | 36 => ⟨S512x512, .f32⟩
  | 37 => ⟨S_, .f32⟩
  | 38 => ⟨S512x512, .f32⟩
  | 39 => ⟨S512x512, .f32⟩
  | 40 => ⟨S512x512, .f32⟩
  | 41 => ⟨S512x512, .f32⟩
  | 42 => ⟨S_, .f32⟩
  | 43 => ⟨S_, .f32⟩
  | 44 => ⟨S512x512, .f32⟩
  | 45 => ⟨S512x512, .f32⟩
  | 46 => ⟨S_, .f32⟩
  | 47 => ⟨S_, .f32⟩
  | 48 => ⟨S512x512, .f32⟩
  | 49 => ⟨S512x512, .f32⟩
  | 50 => ⟨S512x512, .f32⟩
  | 51 => ⟨S512x512, .f32⟩
  | 52 => ⟨S512x512, .f32⟩
  | 53 => ⟨S512x512, .f32⟩
  | 54 => ⟨S512x512, .f32⟩
  | 55 => ⟨S512x512, .f32⟩
  | 56 => ⟨S512x512, .f32⟩
  | 57 => ⟨S_, .i32⟩
  | 58 => ⟨S_, .i32⟩
  | 59 => ⟨S2048x512, .f32⟩
  | 60 => ⟨S_, .f32⟩
  | 61 => ⟨S2048, .f32⟩
  | 62 => ⟨S2048x1, .f32⟩
  | 63 => ⟨S2048x1, .f32⟩
  | 64 => ⟨S_, .f32⟩
  | 65 => ⟨S2048x1, .f32⟩
  | 66 => ⟨S2048x1, .f32⟩
  | 67 => ⟨S2048x512, .f32⟩
  | 68 => ⟨S2048x512, .f32⟩
  | 69 => ⟨S512x512, .f32⟩
  | 70 => ⟨S2048x512, .f32⟩
  | 71 => ⟨S4096x512, .f32⟩
  | 72 => ⟨S_, .f32⟩
  | 73 => ⟨S4096, .f32⟩
  | 74 => ⟨S4096x1, .f32⟩
  | 75 => ⟨S4096x1, .f32⟩
  | 76 => ⟨S_, .f32⟩
  | 77 => ⟨S4096x1, .f32⟩
  | 78 => ⟨S4096x1, .f32⟩
  | 79 => ⟨S4096x512, .f32⟩
  | 80 => ⟨S4096x512, .f32⟩
  | 81 => ⟨S512x512, .f32⟩
  | 82 => ⟨S4096x512, .f32⟩
  | 83 => ⟨S4096x512, .f32⟩
  | 84 => ⟨S_, .f32⟩
  | 85 => ⟨S4096, .f32⟩
  | 86 => ⟨S4096x1, .f32⟩
  | 87 => ⟨S2048x512, .f32⟩
  | 88 => ⟨S_, .f32⟩
  | 89 => ⟨S2048, .f32⟩
  | 90 => ⟨S1x2048, .f32⟩
  | 91 => ⟨S4096x2048, .f32⟩
  | 92 => ⟨S4096x2048, .f32⟩
  | 93 => ⟨S4096x2048, .f32⟩
  | 94 => ⟨S512x2048, .f32⟩
  | 95 => ⟨S4096x2048, .f32⟩
  | 96 => ⟨S_, .f32⟩
  | 97 => ⟨S4096x2048, .f32⟩
  | 98 => ⟨S4096x2048, .f32⟩
  | 99 => ⟨S4096x2048, .f32⟩
  | 100 => ⟨S_, .f32⟩
  | 101 => ⟨S4096x2048, .f32⟩
  | 102 => ⟨S4096x2048, .f32⟩
  | 103 => ⟨S4096x2048, .f32⟩
  | 104 => ⟨S4096x3, .f32⟩
  | 105 => ⟨S4096x3, .i32⟩
  | 106 => ⟨S4096x3, .f32⟩
  | 107 => ⟨S4096x3, .f32⟩
  | 108 => ⟨S_, .f32⟩
  | 109 => ⟨S4096, .f32⟩
  | 110 => ⟨S_, .f32⟩
  | 111 => ⟨S4096, .f32⟩
  | 112 => ⟨S4096, .f32⟩
  | 113 => ⟨S_, .f32⟩
  | 114 => ⟨S4096, .f32⟩
  | 115 => ⟨S4096, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_cst_1 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_call2_v0 : Ref sig .tc := ⟨.hbm, 31, rfl⟩
abbrev main_call2_c : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_cst : Ref sig .tc := ⟨.hbm, 37, rfl⟩
abbrev main_call2_v5 : Ref sig .tc := ⟨.hbm, 38, rfl⟩
abbrev main_v16 : Ref sig .tc := ⟨.hbm, 39, rfl⟩
abbrev main_v17 : Ref sig .tc := ⟨.hbm, 40, rfl⟩
abbrev main_cst_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_c_7 : Ref sig .tc := ⟨.hbm, 57, rfl⟩
abbrev main_cst_8 : Ref sig .tc := ⟨.hbm, 58, rfl⟩
abbrev main_cst_9 : Ref sig .tc := ⟨.hbm, 59, rfl⟩
abbrev main_c_10 : Ref sig .tc := ⟨.hbm, 60, rfl⟩
abbrev main_v30_0 : Ref sig .tc := ⟨.hbm, 61, rfl⟩
abbrev main_v30_1 : Ref sig .tc := ⟨.hbm, 62, rfl⟩
abbrev main_v30_2 : Ref sig .tc := ⟨.hbm, 63, rfl⟩
abbrev main_v30_3 : Ref sig .tc := ⟨.hbm, 64, rfl⟩
abbrev main_v30_4 : Ref sig .tc := ⟨.hbm, 65, rfl⟩
abbrev main_v30_5 : Ref sig .tc := ⟨.hbm, 66, rfl⟩
abbrev main_v30_6 : Ref sig .tc := ⟨.hbm, 67, rfl⟩
abbrev main_v30_7 : Ref sig .tc := ⟨.hbm, 68, rfl⟩
abbrev main_v30_8 : Ref sig .tc := ⟨.hbm, 69, rfl⟩
abbrev main_while0c_c_28 : Ref sig .tc := ⟨.hbm, 70, rfl⟩
abbrev main_while0c_v69 : Ref sig .tc := ⟨.hbm, 71, rfl⟩
abbrev main_while0b_c_28 : Ref sig .tc := ⟨.hbm, 72, rfl⟩
abbrev main_while0b_v69 : Ref sig .tc := ⟨.hbm, 73, rfl⟩
abbrev main_while0b_cst_29 : Ref sig .tc := ⟨.hbm, 74, rfl⟩
abbrev main_while0b_cst_30 : Ref sig .tc := ⟨.hbm, 75, rfl⟩
abbrev main_while0b_v70 : Ref sig .tc := ⟨.hbm, 76, rfl⟩
abbrev main_while0b_cst_31 : Ref sig .tc := ⟨.hbm, 77, rfl⟩
abbrev main_while0b_cst_32 : Ref sig .tc := ⟨.hbm, 78, rfl⟩
abbrev main_while0b_v71 : Ref sig .tc := ⟨.hbm, 79, rfl⟩
abbrev main_while0b_cst_33 : Ref sig .tc := ⟨.hbm, 80, rfl⟩
abbrev main_while0b_cst_34 : Ref sig .tc := ⟨.hbm, 81, rfl⟩
abbrev main_while0b_v72 : Ref sig .tc := ⟨.hbm, 82, rfl⟩
abbrev main_while0b_cst_35 : Ref sig .tc := ⟨.hbm, 83, rfl⟩
abbrev main_while0b_cst_36 : Ref sig .tc := ⟨.hbm, 84, rfl⟩
abbrev main_while0b_v73 : Ref sig .tc := ⟨.hbm, 85, rfl⟩
abbrev main_while0b_v74 : Ref sig .tc := ⟨.hbm, 86, rfl⟩
abbrev main_while0b_v75 : Ref sig .tc := ⟨.hbm, 87, rfl⟩
abbrev main_while0b_v76 : Ref sig .tc := ⟨.hbm, 88, rfl⟩
abbrev main_while0b_v77 : Ref sig .tc := ⟨.hbm, 89, rfl⟩
abbrev main_while0b_call3_v0 : Ref sig .tc := ⟨.hbm, 90, rfl⟩
abbrev main_while0b_call3_cst : Ref sig .tc := ⟨.hbm, 91, rfl⟩
abbrev main_while0b_call3_v1 : Ref sig .tc := ⟨.hbm, 92, rfl⟩
abbrev main_while0b_call3_v2 : Ref sig .tc := ⟨.hbm, 93, rfl⟩
abbrev main_while0b_v78_0 : Ref sig .tc := ⟨.hbm, 94, rfl⟩
abbrev main_while0b_call3_cst_0 : Ref sig .tc := ⟨.hbm, 95, rfl⟩
abbrev main_while0b_call3_v4 : Ref sig .tc := ⟨.hbm, 96, rfl⟩
abbrev main_while0b_v78_1 : Ref sig .tc := ⟨.hbm, 97, rfl⟩
abbrev main_while0b_cst_37 : Ref sig .tc := ⟨.hbm, 98, rfl⟩
abbrev main_while0b_v79 : Ref sig .tc := ⟨.hbm, 99, rfl⟩
abbrev main_while0b_v80 : Ref sig .tc := ⟨.hbm, 100, rfl⟩
abbrev main_while0b_cst_38 : Ref sig .tc := ⟨.hbm, 101, rfl⟩
abbrev main_while0b_v81 : Ref sig .tc := ⟨.hbm, 102, rfl⟩
abbrev main_while0b_v82 : Ref sig .tc := ⟨.hbm, 103, rfl⟩
abbrev main_while0b_cst_39 : Ref sig .tc := ⟨.hbm, 104, rfl⟩
abbrev main_while0b_v83 : Ref sig .tc := ⟨.hbm, 105, rfl⟩
abbrev main_while0b_v84 : Ref sig .tc := ⟨.hbm, 106, rfl⟩
abbrev main_while0b_cst_40 : Ref sig .tc := ⟨.hbm, 107, rfl⟩
abbrev main_while0b_v85 : Ref sig .tc := ⟨.hbm, 108, rfl⟩
abbrev main_while0b_cst_41 : Ref sig .tc := ⟨.hbm, 109, rfl⟩
abbrev main_while0b_v86 : Ref sig .tc := ⟨.hbm, 110, rfl⟩
abbrev main_while0b_cst_42 : Ref sig .tc := ⟨.hbm, 111, rfl⟩
abbrev main_while0b_v87 : Ref sig .tc := ⟨.hbm, 112, rfl⟩
abbrev main_while0b_v88 : Ref sig .tc := ⟨.hbm, 113, rfl⟩
abbrev main_while0b_v89 : Ref sig .tc := ⟨.hbm, 114, rfl⟩
abbrev main_while0b_v90 : Ref sig .tc := ⟨.hbm, 115, rfl⟩
abbrev main_while0b_v91 : Ref sig .tc := ⟨.hbm, 116, rfl⟩
abbrev main_while0b_v92 : Ref sig .tc := ⟨.hbm, 117, rfl⟩
abbrev main_while0b_cst_43 : Ref sig .tc := ⟨.hbm, 118, rfl⟩
abbrev main_while0b_v93 : Ref sig .tc := ⟨.hbm, 119, rfl⟩
abbrev main_while0b_v94 : Ref sig .tc := ⟨.hbm, 120, rfl⟩
abbrev main_while0b_v95 : Ref sig .tc := ⟨.hbm, 121, rfl⟩
abbrev main_while0b_v96 : Ref sig .tc := ⟨.hbm, 122, rfl⟩
abbrev main_while0b_v97 : Ref sig .tc := ⟨.hbm, 123, rfl⟩
abbrev main_while0b_cst_44 : Ref sig .tc := ⟨.hbm, 124, rfl⟩
abbrev main_while0b_v98 : Ref sig .tc := ⟨.hbm, 125, rfl⟩
abbrev main_while0b_cst_45 : Ref sig .tc := ⟨.hbm, 126, rfl⟩
abbrev main_while0b_v99 : Ref sig .tc := ⟨.hbm, 127, rfl⟩
abbrev main_while0b_v100 : Ref sig .tc := ⟨.hbm, 128, rfl⟩
abbrev main_while0b_v101 : Ref sig .tc := ⟨.hbm, 129, rfl⟩
abbrev main_while0b_v102 : Ref sig .tc := ⟨.hbm, 130, rfl⟩
abbrev main_while0b_v103 : Ref sig .tc := ⟨.hbm, 131, rfl⟩
abbrev main_while0b_v104 : Ref sig .tc := ⟨.hbm, 132, rfl⟩
abbrev main_while0b_v105 : Ref sig .tc := ⟨.hbm, 133, rfl⟩
abbrev main_while0b_v106 : Ref sig .tc := ⟨.hbm, 134, rfl⟩
abbrev main_while0b_v107 : Ref sig .tc := ⟨.hbm, 135, rfl⟩
abbrev main_while0b_v108 : Ref sig .tc := ⟨.hbm, 136, rfl⟩
abbrev main_while0b_cst_46 : Ref sig .tc := ⟨.hbm, 137, rfl⟩
abbrev main_while0b_v109 : Ref sig .tc := ⟨.hbm, 138, rfl⟩
abbrev main_while0b_v110 : Ref sig .tc := ⟨.hbm, 139, rfl⟩
abbrev main_while0b_v111 : Ref sig .tc := ⟨.hbm, 140, rfl⟩
abbrev main_while0b_v112 : Ref sig .tc := ⟨.hbm, 141, rfl⟩
abbrev main_while0b_v113 : Ref sig .tc := ⟨.hbm, 142, rfl⟩
abbrev main_while0b_v114 : Ref sig .tc := ⟨.hbm, 143, rfl⟩
abbrev main_while0b_call4_v0 : Ref sig .tc := ⟨.hbm, 144, rfl⟩
abbrev main_while0b_call4_cst : Ref sig .tc := ⟨.hbm, 145, rfl⟩
abbrev main_while0b_call4_v1 : Ref sig .tc := ⟨.hbm, 146, rfl⟩
abbrev main_while0b_call4_v2 : Ref sig .tc := ⟨.hbm, 147, rfl⟩
abbrev main_while0b_call4_v3 : Ref sig .tc := ⟨.hbm, 148, rfl⟩
abbrev main_while0b_call4_v4 : Ref sig .tc := ⟨.hbm, 149, rfl⟩
abbrev main_while0b_v115 : Ref sig .tc := ⟨.hbm, 150, rfl⟩
abbrev main_while0b_v116 : Ref sig .tc := ⟨.hbm, 151, rfl⟩
abbrev main_while0b_v117 : Ref sig .tc := ⟨.hbm, 152, rfl⟩
abbrev main_while0b_v118 : Ref sig .tc := ⟨.hbm, 153, rfl⟩
abbrev main_while0b_v119 : Ref sig .tc := ⟨.hbm, 154, rfl⟩
abbrev main_while0b_cst_47 : Ref sig .tc := ⟨.hbm, 155, rfl⟩
abbrev main_while0b_v120 : Ref sig .tc := ⟨.hbm, 156, rfl⟩
abbrev main_while0b_v121 : Ref sig .tc := ⟨.hbm, 157, rfl⟩
abbrev main_while0b_cst_48 : Ref sig .tc := ⟨.hbm, 158, rfl⟩
abbrev main_while0b_v122 : Ref sig .tc := ⟨.hbm, 159, rfl⟩
abbrev main_while0b_v123 : Ref sig .tc := ⟨.hbm, 160, rfl⟩
abbrev main_while0b_v124 : Ref sig .tc := ⟨.hbm, 161, rfl⟩
abbrev main_while0b_cst_49 : Ref sig .tc := ⟨.hbm, 162, rfl⟩
abbrev main_while0b_v125 : Ref sig .tc := ⟨.hbm, 163, rfl⟩
abbrev main_while0b_v126 : Ref sig .tc := ⟨.hbm, 164, rfl⟩
abbrev main_while0b_cst_50 : Ref sig .tc := ⟨.hbm, 165, rfl⟩
abbrev main_while0b_v127 : Ref sig .tc := ⟨.hbm, 166, rfl⟩
abbrev main_while0b_v128 : Ref sig .tc := ⟨.hbm, 167, rfl⟩
abbrev main_while0b_v129 : Ref sig .tc := ⟨.hbm, 168, rfl⟩
abbrev main_while0b_v130 : Ref sig .tc := ⟨.hbm, 169, rfl⟩
abbrev main_while0b_cst_51 : Ref sig .tc := ⟨.hbm, 170, rfl⟩
abbrev main_while0b_v131 : Ref sig .tc := ⟨.hbm, 171, rfl⟩
abbrev main_while0b_v132 : Ref sig .tc := ⟨.hbm, 172, rfl⟩
abbrev main_while0b_v133 : Ref sig .tc := ⟨.hbm, 173, rfl⟩
abbrev main_while0b_cst_52 : Ref sig .tc := ⟨.hbm, 174, rfl⟩
abbrev main_while0b_v134 : Ref sig .tc := ⟨.hbm, 175, rfl⟩
abbrev main_while0b_v135 : Ref sig .tc := ⟨.hbm, 176, rfl⟩
abbrev main_while0b_v136 : Ref sig .tc := ⟨.hbm, 177, rfl⟩
abbrev main_while0b_v137 : Ref sig .tc := ⟨.hbm, 178, rfl⟩
abbrev main_while0b_v138 : Ref sig .tc := ⟨.hbm, 179, rfl⟩
abbrev main_while0b_v139 : Ref sig .tc := ⟨.hbm, 180, rfl⟩
abbrev main_while0b_v140 : Ref sig .tc := ⟨.hbm, 181, rfl⟩
abbrev main_while0b_v141 : Ref sig .tc := ⟨.hbm, 182, rfl⟩
abbrev main_while0b_v142 : Ref sig .tc := ⟨.hbm, 183, rfl⟩
abbrev main_while0b_v143 : Ref sig .tc := ⟨.hbm, 184, rfl⟩
abbrev main_while0b_c_53 : Ref sig .tc := ⟨.hbm, 185, rfl⟩
abbrev main_while0b_v144 : Ref sig .tc := ⟨.hbm, 186, rfl⟩
abbrev main_call5_v0 : Ref sig .tc := ⟨.hbm, 187, rfl⟩
abbrev main_call5_cst : Ref sig .tc := ⟨.hbm, 188, rfl⟩
abbrev main_call5_v1 : Ref sig .tc := ⟨.hbm, 189, rfl⟩
abbrev main_call5_v2 : Ref sig .tc := ⟨.hbm, 190, rfl⟩
abbrev main_v31 : Ref sig .tc := ⟨.hbm, 191, rfl⟩
abbrev main_cst_11 : Ref sig .tc := ⟨.hbm, 192, rfl⟩
abbrev main_v32 : Ref sig .tc := ⟨.hbm, 193, rfl⟩
abbrev main_v33 : Ref sig .tc := ⟨.hbm, 194, rfl⟩
abbrev main_v34 : Ref sig .tc := ⟨.hbm, 195, rfl⟩
abbrev main_v35 : Ref sig .tc := ⟨.hbm, 196, rfl⟩
abbrev main_v36 : Ref sig .tc := ⟨.hbm, 197, rfl⟩
abbrev main_v37 : Ref sig .tc := ⟨.hbm, 198, rfl⟩
abbrev main_call6_v0 : Ref sig .tc := ⟨.hbm, 199, rfl⟩
abbrev main_call6_cst : Ref sig .tc := ⟨.hbm, 200, rfl⟩
abbrev main_call6_v1 : Ref sig .tc := ⟨.hbm, 201, rfl⟩
abbrev main_call6_v2 : Ref sig .tc := ⟨.hbm, 202, rfl⟩
abbrev main_v38 : Ref sig .tc := ⟨.hbm, 203, rfl⟩
abbrev main_cst_12 : Ref sig .tc := ⟨.hbm, 204, rfl⟩
abbrev main_v39 : Ref sig .tc := ⟨.hbm, 205, rfl⟩
abbrev main_v40 : Ref sig .tc := ⟨.hbm, 206, rfl⟩
abbrev main_v41 : Ref sig .tc := ⟨.hbm, 207, rfl⟩
abbrev main_v42 : Ref sig .tc := ⟨.hbm, 208, rfl⟩
abbrev main_v43 : Ref sig .tc := ⟨.hbm, 209, rfl⟩
abbrev main_v44 : Ref sig .tc := ⟨.hbm, 210, rfl⟩
abbrev main_v45 : Ref sig .tc := ⟨.hbm, 211, rfl⟩
abbrev main_cst_13 : Ref sig .tc := ⟨.hbm, 212, rfl⟩
abbrev main_v46 : Ref sig .tc := ⟨.hbm, 213, rfl⟩
abbrev main_v47 : Ref sig .tc := ⟨.hbm, 214, rfl⟩
abbrev main_v48 : Ref sig .tc := ⟨.hbm, 215, rfl⟩
abbrev main_cst_14 : Ref sig .tc := ⟨.hbm, 216, rfl⟩
abbrev main_v49 : Ref sig .tc := ⟨.hbm, 217, rfl⟩
abbrev main_v50 : Ref sig .tc := ⟨.hbm, 218, rfl⟩
abbrev main_v51 : Ref sig .tc := ⟨.hbm, 219, rfl⟩
abbrev main_v52 : Ref sig .tc := ⟨.hbm, 220, rfl⟩
abbrev main_v53 : Ref sig .tc := ⟨.hbm, 221, rfl⟩
abbrev main_v54 : Ref sig .tc := ⟨.hbm, 222, rfl⟩
abbrev main_v55 : Ref sig .tc := ⟨.hbm, 223, rfl⟩
abbrev main_cst_15 : Ref sig .tc := ⟨.hbm, 224, rfl⟩
abbrev main_v56 : Ref sig .tc := ⟨.hbm, 225, rfl⟩
abbrev main_v57 : Ref sig .tc := ⟨.hbm, 226, rfl⟩
abbrev main_v58 : Ref sig .tc := ⟨.hbm, 227, rfl⟩
abbrev main_cst_16 : Ref sig .tc := ⟨.hbm, 228, rfl⟩
abbrev main_v59 : Ref sig .tc := ⟨.hbm, 229, rfl⟩
abbrev main_v60 : Ref sig .tc := ⟨.hbm, 230, rfl⟩
abbrev main_v61 : Ref sig .tc := ⟨.hbm, 231, rfl⟩
abbrev main_values : Ref sig .tc := ⟨.hbm, 232, rfl⟩
abbrev main_indices : Ref sig .tc := ⟨.hbm, 233, rfl⟩
abbrev main_v62 : Ref sig .tc := ⟨.hbm, 234, rfl⟩
abbrev main_v63 : Ref sig .tc := ⟨.hbm, 235, rfl⟩
abbrev main_cst_17 : Ref sig .tc := ⟨.hbm, 236, rfl⟩
abbrev main_v64 : Ref sig .tc := ⟨.hbm, 237, rfl⟩
abbrev main_cst_18 : Ref sig .tc := ⟨.hbm, 238, rfl⟩
abbrev main_v65 : Ref sig .tc := ⟨.hbm, 239, rfl⟩
abbrev main_v66 : Ref sig .tc := ⟨.hbm, 240, rfl⟩
abbrev main_cst_19 : Ref sig .tc := ⟨.hbm, 241, rfl⟩
abbrev main_v67 : Ref sig .tc := ⟨.hbm, 242, rfl⟩
abbrev main_v68 : Ref sig .tc := ⟨.hbm, 243, rfl⟩

abbrev nD : Nat := 1
abbrev τ : Topo := Topo.v7x

variable {F : FTy → Type} [FloatOps F]

abbrev main_while0_count : Scf.Loop 32 := ⟨0#32, 10#32, 1#32⟩
-- ==== Proof.Step.lean ====
module

public import proofs.«01_k».proof.Proof.Gen.KernelIdeal.Frame

/-!
The training call, read as ten applications of one step.

The kernel's body writes its ten training steps out one after the other. Here one step is written once, as a function of
the normalised support rows, the one-hot class rows, the weight of a pair, and the state (the matrix and its two moments).
-/

@[expose] public section

noncomputable section

namespace Cert.KernelIdeal.Train

open Idealize.ShloMosaic Idealize.ShloMosaic.TcCoe
open Cert.KernelIdeal Cert.KernelIdeal.Gen

variable {F : FTy → Type} [FloatOps F] [Named F]

/-- What stays the same through the training: the normalised support rows, their classes as one-hot rows, and the
weight of one pair of rows in the loss. -/
structure Args (F : FTy → Type) where
  sn : FVec F S2048x512 .f32
  oh : FVec F S2048x64 .f32
  inv : F .f32

/-- What a training step changes: the matrix, and the running means of its gradient and of the square of its gradient. -/
structure State (F : FTy → Type) where
  w : FVec F S512x512 .f32
  m : FVec F S512x512 .f32
  v : FVec F S512x512 .f32

/-- The transformed support rows. -/
def z (A : Args F) (w : FVec F S512x512 .f32) : FVec F S2048x512 .f32 :=
  matmul dot_S2048x512_S512x512_S2048x512_1_1_0_0_n_n none A.sn w (constant S2048x512 .f32 0x00000000#32)

/-- One over the length of each transformed row. -/
def inz (A : Args F) (w : FVec F S512x512 .f32) : FVec F S2048x1 .f32 :=
  rsqrt (shapeCast S2048x1 (multiReduction .add [1] S2048 (mulf (z A w) (z A w)) 0x00000000#32 reduces_S2048x512_S2048 (.inl rfl) rfl)
    shapeCasts_S2048_S2048x1)

/-- The same, repeated along the row. -/
def inzb (A : Args F) (w : FVec F S512x512 .f32) : FVec F S2048x512 .f32 :=
  broadcastTo S2048x512 (inz A w) broadcasts_S2048x1_S2048x512

/-- The transformed rows, scaled to length one. -/
def t (A : Args F) (w : FVec F S512x512 .f32) : FVec F S2048x512 .f32 := mulf (z A w) (inzb A w)

/-- The sum of the scaled rows of each class. -/
def cs (A : Args F) (w : FVec F S512x512 .f32) : FVec F S64x512 .f32 :=
  matmul dot_S2048x64_S2048x512_S64x512_0_0_1_1_n_n none A.oh (t A w) (constant S64x512 .f32 0x00000000#32)

/-- Each scaled row against each class sum. -/
def tcs (A : Args F) (w : FVec F S512x512 .f32) : FVec F S2048x64 .f32 :=
  matmul dot_S2048x512_S64x512_S2048x64_1_1_0_0_n_n none (t A w) (cs A w) (constant S2048x64 .f32 0x00000000#32)

/-- Each scaled row against the sum of all rows. -/
def tsum (A : Args F) (w : FVec F S512x512 .f32) : FVec F S2048x1 .f32 :=
  shapeCast S2048x1 (multiReduction .add [1] S2048 (tcs A w) 0x00000000#32 reduces_S2048x64_S2048 (.inl rfl) rfl) shapeCasts_S2048_S2048x1

/-- Each scaled row against the sum of the rows of other classes, less that against its own class. -/
def dif (A : Args F) (w : FVec F S512x512 .f32) : FVec F S2048x1 .f32 :=
  subf (tsum A w) (mulf (broadcast S2048x1 (Scalar.ofBits .f32 0x40000000#32))
    (shapeCast S2048x1 (multiReduction .add [1] S2048 (mulf (tcs A w) A.oh) 0x00000000#32 reduces_S2048x64_S2048 (.inl rfl) rfl)
      shapeCasts_S2048_S2048x1))

/-- The share of the loss that a row takes part in. -/
def rr (A : Args F) (w : FVec F S512x512 .f32) : FVec F S2048x1 .f32 :=
  mulf (broadcast S2048x1 A.inv) (addf (dif A w) (broadcast S2048x1 (Scalar.ofBits .f32 0x3F800000#32)))

/-- The sum of the support rows of each class, each over the length of its transformed row. -/
def ps (A : Args F) (w : FVec F S512x512 .f32) : FVec F S64x512 .f32 :=
  matmul dot_S2048x64_S2048x512_S64x512_0_0_1_1_n_n none
    (mulf A.oh (broadcastTo S2048x64 (inz A w) broadcasts_S2048x1_S2048x64)) A.sn (constant S64x512 .f32 0x00000000#32)

/-- For each class, the sum of `ps` over the other classes less that over its own. -/
def pd (A : Args F) (w : FVec F S512x512 .f32) : FVec F S64x512 .f32 :=
  subf (broadcastTo S64x512 (shapeCast S1x512 (multiReduction .add [0] S512 (ps A w) 0x00000000#32 reduces_S64x512_S512 (.inl rfl) rfl)
      shapeCasts_S512_S1x512) broadcasts_S1x512_S64x512)
    (mulf (broadcast S64x512 (Scalar.ofBits .f32 0x40000000#32)) (ps A w))

/-- The weight of a pair, as a class-by-feature array. -/
def invb (A : Args F) : FVec F S64x512 .f32 := broadcast S64x512 A.inv

/-- The part of the gradient made of class sums. -/
def gcls (A : Args F) (w : FVec F S512x512 .f32) : FVec F S512x512 .f32 :=
  matmul dot_S64x512_S64x512_S512x512_0_0_1_1_n_n none (cs A w) (mulf (invb A) (pd A w)) (constant S512x512 .f32 0x00000000#32)

/-- The scaled rows, weighted for the part of the gradient that each row adds of itself. -/
def tw (A : Args F) (w : FVec F S512x512 .f32) : FVec F S2048x512 .f32 :=
  mulf (broadcastTo S2048x512 (mulf (subf (broadcast S2048x1 A.inv) (rr A w)) (inz A w)) broadcasts_S2048x1_S2048x512) (t A w)

/-- The gradient of the loss. -/
def grad (A : Args F) (w : FVec F S512x512 .f32) : FVec F S512x512 .f32 :=
  addf (gcls A w) (matmul dot_S2048x512_S2048x512_S512x512_0_0_1_1_n_n none (tw A w) A.sn (constant S512x512 .f32 0x00000000#32))

/-- The old mean of the gradient, decayed. -/
def b1m (m : FVec F S512x512 .f32) : FVec F S512x512 .f32 := mulf (broadcast S512x512 (Scalar.ofBits .f32 0x3F666666#32)) m

/-- The gradient, weighted for its mean. -/
def b1g (g : FVec F S512x512 .f32) : FVec F S512x512 .f32 := mulf (broadcast S512x512 (Scalar.ofBits .f32 0x3DCCCCCD#32)) g

/-- The old mean of the squared gradient, decayed. -/
def b2v (v : FVec F S512x512 .f32) : FVec F S512x512 .f32 := mulf (broadcast S512x512 (Scalar.ofBits .f32 0x3F7FBE77#32)) v

/-- The squared gradient, weighted for its mean. -/
def b2g (g : FVec F S512x512 .f32) : FVec F S512x512 .f32 := mulf (mulf (broadcast S512x512 (Scalar.ofBits .f32 0x3A83126F#32)) g) g

/-- The step size of step `i`, with the corrections of both means folded in. -/
def size : ℕ → F .f32
  | 0 => Named.named κ "a1" 0x39A5CB5F#32
  | 1 => Named.named κ "a2" 0x3976BF5A#32
  | 2 => Named.named κ "a3" 0x3953D2CF#32
  | 3 => Named.named κ "a4" 0x3940B218#32
  | 4 => Named.named κ "a5" 0x3934E0CE#32
  | 5 => Named.named κ "a6" 0x392D20E2#32
  | 6 => Named.named κ "a7" 0x3927E8B9#32
  | 7 => Named.named κ "a8" 0x392462F7#32
  | 8 => Named.named κ "a9" 0x392210C0#32
  | _ => Named.named κ "a10" 0x3920A161#32

/-- The guard added to the root of the mean square at step `i`, with its correction folded in. -/
def guard : ℕ → F .f32
  | 0 => Named.named κ "e1" 0x2FADD91A#32
  | 1 => Named.named κ "e2" 0x2FF5CBFB#32
  | 2 => Named.named κ "e3" 0x30167B47#32
  | 3 => Named.named κ "e4" 0x302DB7BC#32
  | 4 => Named.named κ "e5" 0x30422C7C#32
  | 5 => Named.named κ "e6" 0x3054A74F#32
  | 6 => Named.named κ "e7" 0x3065A27C#32
  | 7 => Named.named κ "e8" 0x30756DB3#32
  | 8 => Named.named κ "e9" 0x30822028#32
  | _ => Named.named κ "e10" 0x30892154#32

/-- What step `i` takes off the matrix. -/
def upd (i : ℕ) (m v : FVec F S512x512 .f32) : FVec F S512x512 .f32 :=
  divf (mulf (broadcast S512x512 (size i)) m) (addf (sqrt v) (broadcast S512x512 (guard i)))

/-- The mean of the gradient after a step. -/
def nextM (A : Args F) (s : State F) : FVec F S512x512 .f32 := addf (b1m s.m) (b1g (grad A s.w))

/-- The mean of the squared gradient after a step. -/
def nextV (A : Args F) (s : State F) : FVec F S512x512 .f32 := addf (b2v s.v) (b2g (grad A s.w))

/-- One training step. -/
def step (A : Args F) (i : ℕ) (s : State F) : State F :=
  ⟨subf s.w (upd i (nextM A s) (nextV A s)), nextM A s, nextV A s⟩

/-- The state after so many steps. -/
def st (A : Args F) : ℕ → State F
  | 0 => ⟨k0_pay5, k0_pay6, k0_pay7⟩
  | i + 1 => step A i (st A i)

/-- What the training call keeps fixed, of its two inputs. -/
def args (x0 : Vec F S2048x512 .f32) (x1 : Vec F S2048x1 .i32) : Args F := ⟨k0_pay2 x0, k0_pay3 x1, k0_pay4 x1⟩

end Cert.KernelIdeal.Train

end
-- ==== Proof.ReadTrain.lean ====
module

public import proofs.«01_k».proof.Proof.Step
public import Idealize.ShloMosaic.Lib.Pipeline.Value

/-!
The kernel's training call ends with the state after ten steps: its four outputs.
-/

@[expose] public section

set_option maxRecDepth 8192
set_option maxHeartbeats 2000000

noncomputable section

namespace Cert.KernelIdeal.Train

open Idealize.ShloMosaic Idealize.ShloMosaic.TcCoe
open Cert.KernelIdeal Cert.KernelIdeal.Gen
open Idealize.ShloMosaic.Pipeline

variable {F : FTy → Type} [FloatOps F] [Named F]

theorem hz : (![0, 0] : Fin 2 → Nat) = fun _ => 0 := funext fun a => by fin_cases a <;> rfl

section
variable (c : Dev nD) (a0 : Memref sig .tc .vmem S2048x512 .f32) (h0 : a0.IsWhole) (a1 : Memref sig .tc .vmem S2048x1 .i32) (h1 : a1.IsWhole)
  (x0 : Vec F S2048x512 .f32) (x1 : Vec F S2048x1 .i32)

private theorem eq0 : kernelRun0_A.sl.r (F := F) c a0 h0 x0 = k0_pay2 x0 := by
  unfold kernelRun0_A.sl.r
  simp only [View.readAt_eq_ld, h0.read_unread, View.ld_unit_zero (S := S2048x512) hz]

private theorem eq1 : kernelRun0_A.sl.r_1 (F := F) c a1 h1 x1 = k0_pay3 x1 := by
  unfold kernelRun0_A.sl.r_1
  simp only [View.readAt_eq_ld, h1.read_unread, View.ld_unit_zero (S := S2048x1) hz]

private theorem eq2 : kernelRun0_A.sl.r_2 (F := F) c a1 h1 x1 = k0_pay4 x1 := by
  unfold kernelRun0_A.sl.r_2
  simp only [View.readAt_eq_ld, h1.read_unread, View.ld_unit_zero (S := S2048x1) hz]

private theorem eq3 : kernelRun0_A.sl.r_3 (F := F) c a0 h0 x0 = k0_pay8 x0 := by
  unfold kernelRun0_A.sl.r_3
  simp only [View.readAt_eq_ld, h0.read_unread, View.ld_unit_zero (S := S2048x512) hz]

private theorem eq4 : kernelRun0_A.sl.r_4 (F := F) c a0 h0 x0 = k0_pay9 x0 := by
  unfold kernelRun0_A.sl.r_4
  simp only [View.readAt_eq_ld, h0.read_unread, View.ld_unit_zero (S := S2048x512) hz]

private theorem eq5 : kernelRun0_A.sl.r_5 (F := F) c a0 h0 a1 h1 x0 x1 = (st (args x0 x1) 1).m := by
  unfold kernelRun0_A.sl.r_5
  simp only [eq0, eq1, eq2, eq3, eq4]
  rfl

private theorem eq6 : kernelRun0_A.sl.r_6 (F := F) = b2v (st (args x0 x1) 0).v := by
  unfold kernelRun0_A.sl.r_6
  rfl

private theorem eq7 : kernelRun0_A.sl.r_7 (F := F) c a0 h0 a1 h1 x0 x1 = b2g (grad (args x0 x1) (st (args x0 x1) 0).w) := by
  unfold kernelRun0_A.sl.r_7
  simp only [eq0, eq1, eq2, eq3, eq4, eq5, eq6]
  rfl

private theorem eq8 : kernelRun0_A.sl.r_8 (F := F) c a0 h0 a1 h1 x0 x1 = (st (args x0 x1) 1).v := by
  unfold kernelRun0_A.sl.r_8
  simp only [eq0, eq1, eq2, eq3, eq4, eq5, eq6, eq7]
  rfl

private theorem eq9 : kernelRun0_A.sl.r_9 (F := F) c a0 h0 a1 h1 x0 x1 = (st (args x0 x1) 1).w := by
  unfold kernelRun0_A.sl.r_9
  simp only [eq0, eq1, eq2, eq3, eq4, eq5, eq6, eq7, eq8]
  rfl

private theorem eq10 : kernelRun0_A.sl.r_10 (F := F) c a0 h0 a1 h1 x0 x1 = tw (args x0 x1) (st (args x0 x1) 1).w := by
  unfold kernelRun0_A.sl.r_10
  simp only [eq0, eq1, eq2, eq3, eq4, eq5, eq6, eq7, eq8, eq9]
  rfl

private theorem eq11 : kernelRun0_A.sl.r_11 (F := F) c a0 h0 a1 h1 x0 x1 = gcls (args x0 x1) (st (args x0 x1) 1).w := by
  unfold kernelRun0_A.sl.r_11
  simp only [eq0, eq1, eq2, eq3, eq4, eq5, eq6, eq7, eq8, eq9, eq10]
  rfl

private theorem eq12 : kernelRun0_A.sl.r_12 (F := F) c a0 h0 a1 h1 x0 x1 = (st (args x0 x1) 2).m := by
  unfold kernelRun0_A.sl.r_12
  simp only [eq0, eq1, eq2, eq3, eq4, eq5, eq6, eq7, eq8, eq9, eq10, eq11]
  rfl

private theorem eq13 : kernelRun0_A.sl.r_13 (F := F) c a0 h0 a1 h1 x0 x1 = (st (args x0 x1) 2).v := by
  unfold kernelRun0_A.sl.r_13
  simp only [eq0, eq1, eq2, eq3, eq4, eq5, eq6, eq7, eq8, eq9, eq10, eq11, eq12]
  rfl

private theorem eq14 : kernelRun0_A.sl.r_14 (F := F) c a0 h0 a1 h1 x0 x1 = (st (args x0 x1) 2).w := by
  unfold kernelRun0_A.sl.r_14
  simp only [eq0, eq1, eq2, eq3, eq4, eq5, eq6, eq7, eq8, eq9, eq10, eq11, eq12, eq13]
  rfl

private theorem eq15 : kernelRun0_A.sl.r_15 (F := F) c a0 h0 a1 h1 x0 x1 = inz (args x0 x1) (st (args x0 x1) 2).w := by
  unfold kernelRun0_A.sl.r_15
  simp only [eq0, eq1, eq2, eq3, eq4, eq5, eq6, eq7, eq8, eq9, eq10, eq11, eq12, eq13, eq14]
  rfl

private theorem eq16 : kernelRun0_A.sl.r_16 (F := F) c a0 h0 a1 h1 x0 x1 = t (args x0 x1) (st (args x0 x1) 2).w := by
  unfold kernelRun0_A.sl.r_16
  simp only [eq0, eq1, eq2, eq3, eq4, eq5, eq6, eq7, eq8, eq9, eq10, eq11, eq12, eq13, eq14, eq15]
  rfl

private theorem eq17 : kernelRun0_A.sl.r_17 (F := F) c a0 h0 a1 h1 x0 x1 = cs (args x0 x1) (st (args x0 x1) 2).w := by
  unfold kernelRun0_A.sl.r_17
  simp only [eq0, eq1, eq2, eq3, eq4, eq5, eq6, eq7, eq8, eq9, eq10, eq11, eq12, eq13, eq14, eq15, eq16]
  rfl

private theorem eq18 : kernelRun0_A.sl.r_18 (F := F) c a0 h0 a1 h1 x0 x1 = rr (args x0 x1) (st (args x0 x1) 2).w := by
  unfold kernelRun0_A.sl.r_18
  simp only [eq0, eq1, eq2, eq3, eq4, eq5, eq6, eq7, eq8, eq9, eq10, eq11, eq12, eq13, eq14, eq15, eq16, eq17]
  rfl

private theorem eq19 : kernelRun0_A.sl.r_19 (F := F) c a0 h0 a1 h1 x0 x1 = ps (args x0 x1) (st (args x0 x1) 2).w := by
  unfold kernelRun0_A.sl.r_19
  simp only [eq0, eq1, eq2, eq3, eq4, eq5, eq6, eq7, eq8, eq9, eq10, eq11, eq12, eq13, eq14, eq15, eq16, eq17, eq18]
  rfl

private theorem eq20 : kernelRun0_A.sl.r_20 (F := F) c a0 h0 a1 h1 x0 x1 = (st (args x0 x1) 3).m := by
  unfold kernelRun0_A.sl.r_20
  simp only [eq0, eq1, eq2, eq3, eq4, eq5, eq6, eq7, eq8, eq9, eq10, eq11, eq12, eq13, eq14, eq15, eq16, eq17, eq18, eq19]
  rfl

private theorem eq21 : kernelRun0_A.sl.r_21 (F := F) c a0 h0 a1 h1 x0 x1 = (st (args x0 x1) 3).v := by
  unfold kernelRun0_A.sl.r_21
  simp only [eq0, eq1, eq2, eq3, eq4, eq5, eq6, eq7, eq8, eq9, eq10, eq11, eq12, eq13, eq14, eq15, eq16, eq17, eq18, eq19, eq20]
  rfl

private theorem eq22 : kernelRun0_A.sl.r_22 (F := F) c a0 h0 a1 h1 x0 x1 = (st (args x0 x1) 3).w := by
  unfold kernelRun0_A.sl.r_22
  simp only [eq0, eq1, eq2, eq3, eq4, eq5, eq6, eq7, eq8, eq9, eq10, eq11, eq12, eq13, eq14, eq15, eq16, eq17, eq18, eq19, eq20, eq21]
  rfl

private theorem eq23 : kernelRun0_A.sl.r_23 (F := F) c a0 h0 a1 h1 x0 x1 = inz (args x0 x1) (st (args x0 x1) 3).w := by
  unfold kernelRun0_A.sl.r_23
  simp only [eq0, eq1, eq2, eq3, eq4, eq5, eq6, eq7, eq8, eq9, eq10, eq11, eq12, eq13, eq14, eq15, eq16, eq17, eq18, eq19, eq20, eq21, eq22]
  rfl

private theorem eq24 : kernelRun0_A.sl.r_24 (F := F) c a0 h0 a1 h1 x0 x1 = t (args x0 x1) (st (args x0 x1) 3).w := by
  unfold kernelRun0_A.sl.r_24
  simp only [eq0, eq1, eq2, eq3, eq4, eq5, eq6, eq7, eq8, eq9, eq10, eq11, eq12, eq13, eq14, eq15, eq16, eq17, eq18, eq19, eq20, eq21, eq22, eq23]
  rfl

private theorem eq25 : kernelRun0_A.sl.r_25 (F := F) c a0 h0 a1 h1 x0 x1 = cs (args x0 x1) (st (args x0 x1) 3).w := by
  unfold kernelRun0_A.sl.r_25
  simp only [eq0, eq1, eq2, eq3, eq4, eq5, eq6, eq7, eq8, eq9, eq10, eq11, eq12, eq13, eq14, eq15, eq16, eq17, eq18, eq19, eq20, eq21, eq22, eq23, eq24]
  rfl

private theorem eq26 : kernelRun0_A.sl.r_26 (F := F) c a0 h0 a1 h1 x0 x1 = tcs (args x0 x1) (st (args x0 x1) 3).w := by
  unfold kernelRun0_A.sl.r_26
  simp only [eq0, eq1, eq2, eq3, eq4, eq5, eq6, eq7, eq8, eq9, eq10, eq11, eq12, eq13, eq14, eq15, eq16, eq17, eq18, eq19, eq20, eq21, eq22, eq23, eq24, eq25]
  rfl

private theorem eq27 : kernelRun0_A.sl.r_27 (F := F) c a0 h0 a1 h1 x0 x1 = tsum (args x0 x1) (st (args x0 x1) 3).w := by
  unfold kernelRun0_A.sl.r_27
  simp only [eq0, eq1, eq2, eq3, eq4, eq5, eq6, eq7, eq8, eq9, eq10, eq11, eq12, eq13, eq14, eq15, eq16, eq17, eq18, eq19, eq20, eq21, eq22, eq23, eq24, eq25, eq26]
  rfl

private theorem eq28 : kernelRun0_A.sl.r_28 (F := F) c a0 h0 a1 h1 x0 x1 = (st (args x0 x1) 4).m := by
  unfold kernelRun0_A.sl.r_28
  simp only [eq0, eq1, eq2, eq3, eq4, eq5, eq6, eq7, eq8, eq9, eq10, eq11, eq12, eq13, eq14, eq15, eq16, eq17, eq18, eq19, eq20, eq21, eq22, eq23, eq24, eq25, eq26, eq27]
  rfl

private theorem eq29 : kernelRun0_A.sl.r_29 (F := F) c a0 h0 a1 h1 x0 x1 = (st (args x0 x1) 4).v := by
  unfold kernelRun0_A.sl.r_29
  simp only [eq0, eq1, eq2, eq3, eq4, eq5, eq6, eq7, eq8, eq9, eq10, eq11, eq12, eq13, eq14, eq15, eq16, eq17, eq18, eq19, eq20, eq21, eq22, eq23, eq24, eq25, eq26, eq27, eq28]
  rfl

private theorem eq30 : kernelRun0_A.sl.r_30 (F := F) c a0 h0 a1 h1 x0 x1 = upd 3 (st (args x0 x1) 4).m (st (args x0 x1) 4).v := by
  unfold kernelRun0_A.sl.r_30
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29]
  rfl

private theorem eq31 : kernelRun0_A.sl.r_31 (F := F) c a0 h0 a1 h1 x0 x1 = (st (args x0 x1) 4).w := by
  unfold kernelRun0_A.sl.r_31
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30]
  rfl

private theorem eq32 : kernelRun0_A.sl.r_32 (F := F) c a0 h0 a1 h1 x0 x1 = grad (args x0 x1) (st (args x0 x1) 4).w := by
  unfold kernelRun0_A.sl.r_32
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31]
  rfl

private theorem eq33 : kernelRun0_A.sl.r_33 (F := F) c a0 h0 a1 h1 x0 x1 = b1m (st (args x0 x1) 4).m := by
  unfold kernelRun0_A.sl.r_33
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32]
  rfl

private theorem eq34 : kernelRun0_A.sl.r_34 (F := F) c a0 h0 a1 h1 x0 x1 = b1g (grad (args x0 x1) (st (args x0 x1) 4).w) := by
  unfold kernelRun0_A.sl.r_34
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33]
  rfl

private theorem eq35 : kernelRun0_A.sl.r_35 (F := F) c a0 h0 a1 h1 x0 x1 = (st (args x0 x1) 5).m := by
  unfold kernelRun0_A.sl.r_35
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34]
  rfl

private theorem eq36 : kernelRun0_A.sl.r_36 (F := F) c a0 h0 a1 h1 x0 x1 = (st (args x0 x1) 5).v := by
  unfold kernelRun0_A.sl.r_36
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35]
  rfl

private theorem eq37 : kernelRun0_A.sl.r_37 (F := F) c a0 h0 a1 h1 x0 x1 = (st (args x0 x1) 5).w := by
  unfold kernelRun0_A.sl.r_37
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36]
  rfl

private theorem eq38 : kernelRun0_A.sl.r_38 (F := F) c a0 h0 a1 h1 x0 x1 = inz (args x0 x1) (st (args x0 x1) 5).w := by
  unfold kernelRun0_A.sl.r_38
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37]
  rfl

private theorem eq39 : kernelRun0_A.sl.r_39 (F := F) c a0 h0 a1 h1 x0 x1 = t (args x0 x1) (st (args x0 x1) 5).w := by
  unfold kernelRun0_A.sl.r_39
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38]
  rfl

private theorem eq40 : kernelRun0_A.sl.r_40 (F := F) c a0 h0 a1 h1 x0 x1 = cs (args x0 x1) (st (args x0 x1) 5).w := by
  unfold kernelRun0_A.sl.r_40
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39]
  rfl

private theorem eq41 : kernelRun0_A.sl.r_41 (F := F) c a0 h0 a1 h1 x0 x1 = rr (args x0 x1) (st (args x0 x1) 5).w := by
  unfold kernelRun0_A.sl.r_41
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40]
  rfl

private theorem eq42 : kernelRun0_A.sl.r_42 (F := F) c a0 h0 a1 h1 x0 x1 = pd (args x0 x1) (st (args x0 x1) 5).w := by
  unfold kernelRun0_A.sl.r_42
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41]
  rfl

private theorem eq43 : kernelRun0_A.sl.r_43 (F := F) c a1 h1 x1 = broadcast S64x512 (k0_pay4 x1) := by
  unfold kernelRun0_A.sl.r_43
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42]
  rfl

private theorem eq44 : kernelRun0_A.sl.r_44 (F := F) c a0 h0 a1 h1 x0 x1 = (st (args x0 x1) 6).m := by
  unfold kernelRun0_A.sl.r_44
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43]
  rfl

private theorem eq45 : kernelRun0_A.sl.r_45 (F := F) c a0 h0 a1 h1 x0 x1 = (st (args x0 x1) 6).v := by
  unfold kernelRun0_A.sl.r_45
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44]
  rfl

private theorem eq46 : kernelRun0_A.sl.r_46 (F := F) c a0 h0 a1 h1 x0 x1 = (st (args x0 x1) 6).w := by
  unfold kernelRun0_A.sl.r_46
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45]
  rfl

private theorem eq47 : kernelRun0_A.sl.r_47 (F := F) c a0 h0 a1 h1 x0 x1 = inz (args x0 x1) (st (args x0 x1) 6).w := by
  unfold kernelRun0_A.sl.r_47
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46]
  rfl

private theorem eq48 : kernelRun0_A.sl.r_48 (F := F) c a0 h0 a1 h1 x0 x1 = t (args x0 x1) (st (args x0 x1) 6).w := by
  unfold kernelRun0_A.sl.r_48
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47]
  rfl

private theorem eq49 : kernelRun0_A.sl.r_49 (F := F) c a0 h0 a1 h1 x0 x1 = cs (args x0 x1) (st (args x0 x1) 6).w := by
  unfold kernelRun0_A.sl.r_49
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48]
  rfl

private theorem eq50 : kernelRun0_A.sl.r_50 (F := F) c a0 h0 a1 h1 x0 x1 = dif (args x0 x1) (st (args x0 x1) 6).w := by
  unfold kernelRun0_A.sl.r_50
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49]
  rfl

private theorem eq51 : kernelRun0_A.sl.r_51 (F := F) c a0 h0 a1 h1 x0 x1 = (st (args x0 x1) 7).m := by
  unfold kernelRun0_A.sl.r_51
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50]
  rfl

private theorem eq52 : kernelRun0_A.sl.r_52 (F := F) c a0 h0 a1 h1 x0 x1 = (st (args x0 x1) 7).v := by
  unfold kernelRun0_A.sl.r_52
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51]
  rfl

private theorem eq53 : kernelRun0_A.sl.r_53 (F := F) c a0 h0 a1 h1 x0 x1 = (st (args x0 x1) 7).w := by
  unfold kernelRun0_A.sl.r_53
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52]
  rfl

private theorem eq54 : kernelRun0_A.sl.r_54 (F := F) c a0 h0 a1 h1 x0 x1 = z (args x0 x1) (st (args x0 x1) 7).w := by
  unfold kernelRun0_A.sl.r_54
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53]
  rfl

private theorem eq55 : kernelRun0_A.sl.r_55 (F := F) c a0 h0 a1 h1 x0 x1 = inz (args x0 x1) (st (args x0 x1) 7).w := by
  unfold kernelRun0_A.sl.r_55
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54]
  rfl

private theorem eq56 : kernelRun0_A.sl.r_56 (F := F) c a0 h0 a1 h1 x0 x1 = inzb (args x0 x1) (st (args x0 x1) 7).w := by
  unfold kernelRun0_A.sl.r_56
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55]
  rfl

private theorem eq57 : kernelRun0_A.sl.r_57 (F := F) c a0 h0 a1 h1 x0 x1 = (st (args x0 x1) 8).m := by
  unfold kernelRun0_A.sl.r_57
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56]
  rfl

private theorem eq58 : kernelRun0_A.sl.r_58 (F := F) c a0 h0 a1 h1 x0 x1 = (st (args x0 x1) 8).v := by
  unfold kernelRun0_A.sl.r_58
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56, eq57]
  rfl

private theorem eq59 : kernelRun0_A.sl.r_59 (F := F) c a0 h0 a1 h1 x0 x1 = (st (args x0 x1) 8).w := by
  unfold kernelRun0_A.sl.r_59
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56, eq57, eq58]
  rfl

private theorem eq60 : kernelRun0_A.sl.r_60 (F := F) c a0 h0 a1 h1 x0 x1 = tw (args x0 x1) (st (args x0 x1) 8).w := by
  unfold kernelRun0_A.sl.r_60
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56, eq57, eq58, eq59]
  rfl

private theorem eq61 : kernelRun0_A.sl.r_61 (F := F) c a0 h0 a1 h1 x0 x1 = gcls (args x0 x1) (st (args x0 x1) 8).w := by
  unfold kernelRun0_A.sl.r_61
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56, eq57, eq58, eq59, eq60]
  rfl

private theorem eq62 : kernelRun0_A.sl.r_62 (F := F) c a0 h0 a1 h1 x0 x1 = (st (args x0 x1) 9).m := by
  unfold kernelRun0_A.sl.r_62
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56, eq57, eq58, eq59, eq60, eq61]
  rfl

private theorem eq63 : kernelRun0_A.sl.r_63 (F := F) c a0 h0 a1 h1 x0 x1 = (st (args x0 x1) 9).v := by
  unfold kernelRun0_A.sl.r_63
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56, eq57, eq58, eq59, eq60, eq61, eq62]
  rfl

private theorem eq64 : kernelRun0_A.sl.r_64 (F := F) c a0 h0 a1 h1 x0 x1 = (st (args x0 x1) 9).w := by
  unfold kernelRun0_A.sl.r_64
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56, eq57, eq58, eq59, eq60, eq61, eq62, eq63]
  rfl

private theorem eq65 : kernelRun0_A.sl.r_65 (F := F) c a0 h0 a1 h1 x0 x1 = inz (args x0 x1) (st (args x0 x1) 9).w := by
  unfold kernelRun0_A.sl.r_65
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56, eq57, eq58, eq59, eq60, eq61, eq62, eq63, eq64]
  rfl

private theorem eq66 : kernelRun0_A.sl.r_66 (F := F) c a0 h0 a1 h1 x0 x1 = t (args x0 x1) (st (args x0 x1) 9).w := by
  unfold kernelRun0_A.sl.r_66
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56, eq57, eq58, eq59, eq60, eq61, eq62, eq63, eq64, eq65]
  rfl

private theorem eq67 : kernelRun0_A.sl.r_67 (F := F) c a0 h0 a1 h1 x0 x1 = cs (args x0 x1) (st (args x0 x1) 9).w := by
  unfold kernelRun0_A.sl.r_67
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56, eq57, eq58, eq59, eq60, eq61, eq62, eq63, eq64, eq65, eq66]
  rfl

private theorem eq68 : kernelRun0_A.sl.r_68 (F := F) c a0 h0 a1 h1 x0 x1 = rr (args x0 x1) (st (args x0 x1) 9).w := by
  unfold kernelRun0_A.sl.r_68
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56, eq57, eq58, eq59, eq60, eq61, eq62, eq63, eq64, eq65, eq66, eq67]
  rfl

private theorem eq69 : kernelRun0_A.sl.r_69 (F := F) c a0 h0 a1 h1 x0 x1 = ps (args x0 x1) (st (args x0 x1) 9).w := by
  unfold kernelRun0_A.sl.r_69
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56, eq57, eq58, eq59, eq60, eq61, eq62, eq63, eq64, eq65, eq66, eq67, eq68]
  rfl

private theorem eq70 : kernelRun0_A.sl.r_70 (F := F) c a0 h0 a1 h1 x0 x1 = z (args x0 x1) (st (args x0 x1) 10).w := by
  unfold kernelRun0_A.sl.r_70
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56, eq57, eq58, eq59, eq60, eq61, eq62, eq63, eq64, eq65, eq66, eq67, eq68, eq69]
  rfl

end

variable (c : Dev nD) (a0 : Memref sig .tc .vmem S2048x512 .f32) (h0 : a0.IsWhole) (a1 : Memref sig .tc .vmem S2048x1 .i32) (h1 : a1.IsWhole)
  (a2 : Memref sig .tc .vmem S512x512 .f32) (h2 : a2.IsWhole) (a3 : Memref sig .tc .vmem S512x512 .f32) (h3 : a3.IsWhole)
  (a4 : Memref sig .tc .vmem S2048x512 .f32) (h4 : a4.IsWhole) (a5 : Memref sig .tc .vmem S2048x1 .f32) (h5 : a5.IsWhole)
  (a6 : Memref sig .tc .vmem S8x128 .f32) (h6 : a6.IsWhole) (x0 : Vec F S2048x512 .f32) (x1 : Vec F S2048x1 .i32)

/-- The call's output `0`: the trained matrix. -/
theorem out2 : out0_A_2 c a0 h0 a1 h1 a2 h2 a3 h3 a4 h4 a5 h5 a6 h6 x0 x1 = (st (args x0 x1) 10).w := by
  unfold out0_A_2
  rw [View.read_writes_eq_canon _ _ _ (cover0_A_2 c a0 h0 a1 h1 a2 h2 a3 h3 a4 h4 a5 h5 a6 h6 x0 x1)]
  unfold kernelRun0_A
  dsimp only
  rw [View.canon_unit_zero (S := S512x512) hz]
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56, eq57, eq58, eq59, eq60, eq61, eq62, eq63, eq64, eq65, eq66, eq67, eq68, eq69, eq70]
  rfl

/-- The call's output `1`: minus twice the trained matrix. -/
theorem out3 : out0_A_3 c a0 h0 a1 h1 a2 h2 a3 h3 a4 h4 a5 h5 a6 h6 x0 x1 = mulf (broadcast S512x512 (Scalar.ofBits .f32 0xC0000000#32)) (st (args x0 x1) 10).w := by
  unfold out0_A_3
  rw [View.read_writes_eq_canon _ _ _ (cover0_A_3 c a0 h0 a1 h1 a2 h2 a3 h3 a4 h4 a5 h5 a6 h6 x0 x1)]
  unfold kernelRun0_A
  dsimp only
  rw [View.canon_unit_zero (S := S512x512) hz]
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56, eq57, eq58, eq59, eq60, eq61, eq62, eq63, eq64, eq65, eq66, eq67, eq68, eq69, eq70]
  rfl

/-- The call's output `2`: the transformed support rows. -/
theorem out4 : out0_A_4 c a0 h0 a1 h1 a2 h2 a3 h3 a4 h4 a5 h5 a6 h6 x0 x1 = z (args x0 x1) (st (args x0 x1) 10).w := by
  unfold out0_A_4
  rw [View.read_writes_eq_canon _ _ _ (cover0_A_4 c a0 h0 a1 h1 a2 h2 a3 h3 a4 h4 a5 h5 a6 h6 x0 x1)]
  unfold kernelRun0_A
  dsimp only
  rw [View.canon_unit_zero (S := S2048x512) hz]
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56, eq57, eq58, eq59, eq60, eq61, eq62, eq63, eq64, eq65, eq66, eq67, eq68, eq69, eq70]
  rfl

/-- The call's output `3`: their squared lengths. -/
theorem out5 : out0_A_5 c a0 h0 a1 h1 a2 h2 a3 h3 a4 h4 a5 h5 a6 h6 x0 x1 = k0_pay1 (z (args x0 x1) (st (args x0 x1) 10).w) := by
  unfold out0_A_5
  rw [View.read_writes_eq_canon _ _ _ (cover0_A_5 c a0 h0 a1 h1 a2 h2 a3 h3 a4 h4 a5 h5 a6 h6 x0 x1)]
  unfold kernelRun0_A
  dsimp only
  rw [View.canon_unit_zero (S := S2048x1) hz]
  simp only [eq0, eq1, eq2, eq3, eq4, eq5, eq6, eq7, eq8, eq9, eq10, eq11, eq12, eq13, eq14, eq15, eq16, eq17, eq18, eq19, eq20, eq21, eq22, eq23, eq24, eq25, eq26, eq27, eq28, eq29, eq30, eq31, eq32, eq33, eq34, eq35, eq36, eq37, eq38, eq39, eq40, eq41, eq42, eq43, eq44, eq45, eq46, eq47, eq48, eq49, eq50, eq51, eq52, eq53, eq54, eq55, eq56, eq57, eq58, eq59, eq60, eq61, eq62, eq63, eq64, eq65, eq66, eq67, eq68, eq69, eq70]

end Cert.KernelIdeal.Train

end
-- ==== Proof.KernelRun.lean ====
module

public import proofs.«01_k».proof.Proof.ReadTrain
public import Idealize.ShloMosaic.Lib.Pipeline.ValueKit.Geometry

/-!
What the kernel program's result is, as a function of its arguments.
-/

@[expose] public section

set_option maxRecDepth 16384

noncomputable section

namespace Cert.KernelIdeal.Whole

open Idealize.ShloMosaic Idealize.ShloMosaic.TcCoe Idealize.ShloMosaic.Tactic
open Cert.KernelIdeal Cert.KernelIdeal.Gen Cert.KernelIdeal.Train
open Idealize.ShloMosaic.Rounds
open Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program ends with its arguments as they were and its result as the last boundary has it. -/
theorem run : θ_run defs (onTc (τ := τ) (main (F := F))) ⟨m, fun _ => 0, ρ⟩ (fun r => (∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩), funext fun g => hz g (.inr (no_unscoped g.2))⟩)

end Cert.KernelIdeal.Whole

end
-- ==== Proof.PreWalk.lean ====
module

public import proofs.«01_k».proof.Pre_meaningful

/-!
The condition on the inputs, as a list of checks: four on the inputs, then one before each training step.
-/

@[expose] public section

noncomputable section

namespace Cert.Pre_meaningful

open Idealize.ShloMosaic

variable [Facts] {F : FTy → Type} [FloatOps F]
open Facts

/-- What a training step changes: the matrix, its two means, and the powers of the two decays. -/
abbrev State (F : FTy → Type) : Type := FVec F S512x512 .f32 × FVec F S512x512 .f32 × FVec F S512x512 .f32 × FVec F S_ .f32 × FVec F S_ .f32

/-- The rows transformed by a matrix. -/
def rows (s : FVec F S2048x512 .f32) (w : FVec F S512x512 .f32) : FVec F S2048x512 .f32 :=
  Host.dotGeneral dot_S2048x512_S512x512_S2048x512_1_0_0_1_n_n none s (transpose S512x512 [1, 0] w transposes_S512x512_S512x512_1_0)

/-- Whether each row is longer than the guard. -/
def longer (z : FVec F S2048x512 .f32) : IVec S2048x1 1 :=
  cmpf .ogt (fn_norm_1 z) (broadcastInDim S2048x1 ![] bcast_S_S2048x1 (constant S_ .f32 0x2B8CBCCC#32))

/-- Whether every transformed row is longer than the guard. -/
def check (s : FVec F S2048x512 .f32) (w : FVec F S512x512 .f32) : IVec S_ 1 :=
  Host.reduce IntOp.andi (longer (rows s w)) (constantI S_ 1 1#1) reducesTo_S2048x1_S_d0_1 h_S_

/-- One training step. -/
def adam (s : FVec F S2048x512 .f32) (M : FVec F S2048x2048 .f32) (x : State F) : State F :=
  fn_adam_step s M x.1 x.2.1 x.2.2.1 x.2.2.2.1 x.2.2.2.2

/-- A verdict so far, and the checks of so many more steps. -/
def tail (s : FVec F S2048x512 .f32) (M : FVec F S2048x2048 .f32) : ℕ → IVec S_ 1 → State F → IVec S_ 1
  | 0, a, _ => a
  | n + 1, a, x => tail s M n (andi a (check s x.1)) (adam s M x)

section
variable (s : FVec F S2048x512 .f32) (M : FVec F S2048x2048 .f32) (a : IVec S_ 1) (x : State F)

theorem part9 : fn_part9 s M a x.1 x.2.1 x.2.2.1 x.2.2.2.1 x.2.2.2.2 (check s x.1) = tail s M 1 a x := rfl

theorem part8 : fn_part8 s M x.1 x.2.1 x.2.2.1 x.2.2.2.1 x.2.2.2.2 a (adam s M x).1 (adam s M x).2.1 (adam s M x).2.2.1
    = tail s M 2 a (adam s M x) := by
  unfold fn_part8
  exact part9 s M (andi a (check s (adam s M x).1)) (adam s M (adam s M x))

theorem part7 : fn_part7 s M a x.1 x.2.1 x.2.2.1 x.2.2.2.1 x.2.2.2.2 (rows s x.1) = tail s M 4 a x := by
  unfold fn_part7
  exact part8 s M (andi (andi a (check s x.1)) (check s (adam s M x).1)) (adam s M x)

theorem part6 : fn_part6 s M a x.1 x.2.1 x.2.2.1 x.2.2.2.1 x.2.2.2.2 (longer (rows s x.1)) = tail s M 6 a x := by
  unfold fn_part6
  exact part7 s M (andi (andi a (check s x.1)) (check s (adam s M x).1)) (adam s M (adam s M x))

theorem part5 : fn_part5 s M x.1 x.2.1 x.2.2.1 x.2.2.2.1 x.2.2.2.2 a (adam s M x).1 = tail s M 7 a (adam s M x) := by
  unfold fn_part5
  exact part6 s M (andi a (check s (adam s M x).1)) (adam s M (adam s M x))

theorem part4 : fn_part4 s M a x.1 x.2.1 x.2.2.1 x.2.2.2.1 x.2.2.2.2 = tail s M 9 a x := by
  unfold fn_part4
  exact part5 s M (andi (andi a (check s x.1)) (check s (adam s M x).1)) (adam s M x)

end

/-- The state before the first step. -/
def start (eye : FVec F S512x512 .f32) (t : FVec F S_ .f32) : State F :=
  (addf eye (broadcastInDim S512x512 ![] bcast_S_S512x512 (mulf (constant S_ .f32 0x00000000#32) t)),
    broadcastInDim S512x512 ![] bcast_S_S512x512 (constant S_ .f32 0x00000000#32),
    broadcastInDim S512x512 ![] bcast_S_S512x512 (constant S_ .f32 0x00000000#32),
    constant S_ .f32 0x3F800000#32, constant S_ .f32 0x3F800000#32)

theorem part3 (s : FVec F S2048x512 .f32) (M : FVec F S2048x2048 .f32) (a : IVec S_ 1) (eye : FVec F S512x512 .f32) (t : FVec F S_ .f32) :
    fn_part3 s t a M eye = tail s M 10 a (start eye t) := by
  unfold fn_part3
  exact part4 s M (andi a (check s (start eye t).1)) (adam s M (start eye t))

/-- The normalised support rows. -/
def supIn (x : FVec F S2048x512 .f32) : FVec F S2048x512 .f32 :=
  Host.divf x (broadcastInDim S2048x512 ![0, 1] bcast_S2048x1_S2048x512_0_1
    (maximumf (fn_norm x) (broadcastInDim S2048x1 ![] bcast_S_S2048x1 (constant S_ .f32 0x2B8CBCCC#32))))

/-- The labels, one copy a row. -/
def labIn (y : IVec S2048 32) : IVec S2048x2048 32 :=
  shapeCast S2048x2048 (broadcastInDim S2048x1x1x2048 ![0, 1, 2, 3] bcast_S1x1x1x2048_S2048x1x1x2048_0_1_2_3
    (shapeCast S1x1x1x2048 (broadcastInDim S1x2048 ![1] bcast_S2048_S1x2048_1 y) shapeCasts_S1x2048_S1x1x1x2048)) shapeCasts_S2048x1x1x2048_S2048x2048

/-- Whether two rows are of one class. -/
def sameIn (y : IVec S2048 32) : IVec S2048x2048 1 :=
  cmpi .eq (labIn y) (transpose S2048x2048 [1, 0] (labIn y) transposes_S2048x2048_S2048x2048_1_0)

/-- The sign of each pair, the later row second. -/
def signIn (y : IVec S2048 32) : FVec F S2048x2048 .f32 :=
  fn_triu (subf (mulf (fn_where (sameIn y) (constant S_ .f32 0x00000000#32) (constant S_ .f32 0x3F800000#32))
    (broadcastInDim S2048x2048 ![] bcast_S_S2048x2048 (constant S_ .f32 0x40000000#32)))
    (broadcastInDim S2048x2048 ![] bcast_S_S2048x2048 (constant S_ .f32 0x3F800000#32)))

/-- The sum of the signs. -/
def totalIn (y : IVec S2048 32) : FVec F S_ .f32 :=
  Host.reduceAdd (signIn y) (constant S_ .f32 0x00000000#32) reducesTo_S2048x2048_S_d0_1 h_S_

/-- The signs over their sum. -/
def maskIn (y : IVec S2048 32) : FVec F S2048x2048 .f32 :=
  Host.divf (signIn y) (broadcastInDim S2048x2048 ![] bcast_S_S2048x2048 (totalIn y))

/-- The unit matrix. -/
def eyeIn : FVec F S512x512 .f32 :=
  uitofp .f32 (cmpi .eq (addi (iotaInDim S512x512 32 0) (broadcastInDim S512x512 ![] bcast_S_S512x512 (constantI S_ 32 0#32))) (iotaInDim S512x512 32 1))

/-- Whether each label names a class. -/
def labOk (y : IVec S2048 32) : IVec S2048 1 :=
  andi (cmpi .sge y (broadcastInDim S2048 ![] bcast_S_S2048 (constantI S_ 32 0#32)))
    (cmpi .slt y (broadcastInDim S2048 ![] bcast_S_S2048 (constantI S_ 32 64#32)))

/-- Whether each support row is finite and not shorter than the guard. -/
def supOk (x : FVec F S2048x512 .f32) : IVec S2048x1 1 :=
  andi (cmpf .oge (fn_norm x) (broadcastInDim S2048x1 ![] bcast_S_S2048x1 (constant S_ .f32 0x2B8CBCCC#32)))
    (cmpf .olt (fn_norm x) (broadcastInDim S2048x1 ![] bcast_S_S2048x1 (constant S_ .f32 0x7F800000#32)))

/-- Whether each query row is finite, and zero or not shorter than the guard. -/
def qryOk (x : FVec F S4096x512 .f32) : IVec S4096x1 1 :=
  andi (ori (cmpf .oeq (fn_norm_0 x) (broadcastInDim S4096x1 ![] bcast_S_S4096x1 (constant S_ .f32 0x00000000#32)))
      (cmpf .oge (fn_norm_0 x) (broadcastInDim S4096x1 ![] bcast_S_S4096x1 (constant S_ .f32 0x2B8CBCCC#32))))
    (cmpf .olt (fn_norm_0 x) (broadcastInDim S4096x1 ![] bcast_S_S4096x1 (constant S_ .f32 0x7F800000#32)))

/-- The checks on the inputs. -/
def first (x : FVec F S2048x512 .f32) (y : IVec S2048 32) (q : FVec F S4096x512 .f32) : IVec S_ 1 :=
  andi (andi (andi (Host.reduce IntOp.andi (labOk y) (constantI S_ 1 1#1) reducesTo_S2048_S_d0 h_S_)
    (Host.reduce IntOp.andi (supOk x) (constantI S_ 1 1#1) reducesTo_S2048x1_S_d0_1 h_S_))
    (Host.reduce IntOp.andi (qryOk q) (constantI S_ 1 1#1) reducesTo_S4096x1_S_d0_1 h_S_))
    (cmpf .une (totalIn (F := F) y) (constant S_ .f32 0x00000000#32))

/-- The condition is the checks on the inputs, and then those of the ten steps. -/
theorem fn_eq (x : FVec F S2048x512 .f32) (y : IVec S2048 32) (q : FVec F S4096x512 .f32) (u : IVec S4096 32) :
    fn x y q u = tail (supIn x) (maskIn y) 10 (first x y q) (start eyeIn (totalIn y)) := by
  unfold fn fn_part1 fn_part2
  exact part3 (supIn x) (maskIn y) (first x y q) eyeIn (totalIn y)

/-- The state before so many steps. -/
def before (s : FVec F S2048x512 .f32) (M : FVec F S2048x2048 .f32) (x : State F) : ℕ → State F
  | 0 => x
  | n + 1 => adam s M (before s M x n)

theorem before_succ (s : FVec F S2048x512 .f32) (M : FVec F S2048x2048 .f32) (x : State F) :
    ∀ n, before s M (adam s M x) n = before s M x (n + 1)
  | 0 => rfl
  | n + 1 => by rw [before, before_succ s M x n]; rfl

/-- If the verdict after some checks is yes, then so is the verdict before them and each of them. -/
theorem of_tail (s : FVec F S2048x512 .f32) (M : FVec F S2048x2048 .f32) (j : S_.Idx) :
    ∀ (n : ℕ) (a : IVec S_ 1) (x : State F), tail s M n a x j = 1#1 → a j = 1#1 ∧ ∀ k, k < n → check s (before s M x k).1 j = 1#1
  | 0, _, _, h => ⟨h, fun _ hk => absurd hk (Nat.not_lt_zero _)⟩
  | n + 1, a, x, h => by
    obtain ⟨h1, h2⟩ := of_tail s M j n _ _ h
    have h3 : IntOp.andi (a j) (check s x.1 j) = 1#1 := h1
    have h4 : ∀ p q : BitVec 1, IntOp.andi p q = 1#1 → p = 1#1 ∧ q = 1#1 := by decide
    obtain ⟨h5, h6⟩ := h4 _ _ h3
    refine ⟨h5, fun k hk => ?_⟩
    cases k with
    | zero => exact h6
    | succ k => rw [← before_succ]; exact h2 k (by omega)

end Cert.Pre_meaningful

end
-- ==== Proof.Loss.lean ====
module

public import Mathlib.Tactic.Ring
public import Mathlib.Tactic.Linarith
public import Idealize.ShloMosaic.Lib.Pointwise.Tactic

/-!
The gradient of the loss over the reals, in the two forms that the programs compute it in.

The rows are `S`, each of one class `y`. A matrix `W` transforms them to `z`; `r` is one over the length of each transformed
row and `t` the rows scaled to length one. The loss adds up, over the pairs of different rows, the inner product of their
scaled rows, with a minus where the two are of one class.
-/

@[expose] public section

noncomputable section

namespace Cert.Loss

variable {ι κ γ : Type*} [Fintype ι] [Fintype κ] [Fintype γ] [DecidableEq γ]

/-- The transformed rows. -/
def z (S : ι → κ → ℝ) (W : κ → κ → ℝ) (i : ι) (a : κ) : ℝ := ∑ k, S i k * W a k

/-- The square of the length of each transformed row. -/
def sq (S : ι → κ → ℝ) (W : κ → κ → ℝ) (i : ι) : ℝ := ∑ a, z S W i a * z S W i a

/-- One over the length of each transformed row. -/
def r (S : ι → κ → ℝ) (W : κ → κ → ℝ) (i : ι) : ℝ := (√(sq S W i))⁻¹

/-- The transformed rows scaled to length one. -/
def t (S : ι → κ → ℝ) (W : κ → κ → ℝ) (i : ι) (a : κ) : ℝ := z S W i a * r S W i

/-- One where the row is of the class, and zero elsewhere. -/
def oh (y : ι → γ) (i : ι) (c : γ) : ℝ := if y i = c then 1 else 0

/-- The sum of the scaled rows of each class. -/
def cs (y : ι → γ) (S : ι → κ → ℝ) (W : κ → κ → ℝ) (c : γ) (a : κ) : ℝ := ∑ i, oh y i c * t S W i a

/-- Each scaled row against each class sum. -/
def tcs (y : ι → γ) (S : ι → κ → ℝ) (W : κ → κ → ℝ) (i : ι) (c : γ) : ℝ := ∑ a, t S W i a * cs y S W c a

/-- A row's inner product with its own part of the gradient. -/
def rr (y : ι → γ) (inv : ℝ) (S : ι → κ → ℝ) (W : κ → κ → ℝ) (i : ι) : ℝ :=
  inv * (((∑ c, tcs y S W i c) - 2 * ∑ c, tcs y S W i c * oh y i c) + 1)

/-- The sum of the rows of each class, each over the length of its transformed row. -/
def ps (y : ι → γ) (S : ι → κ → ℝ) (W : κ → κ → ℝ) (c : γ) (b : κ) : ℝ := ∑ i, (oh y i c * r S W i) * S i b

/-- The gradient from the class sums. -/
def byClass (y : ι → γ) (inv : ℝ) (S : ι → κ → ℝ) (W : κ → κ → ℝ) (a b : κ) : ℝ :=
  (∑ c, cs y S W c a * (inv * ((∑ c', ps y S W c' b) - 2 * ps y S W c b)))
    + ∑ i, (((inv - rr y inv S W i) * r S W i) * t S W i a) * S i b

/-- The derivative of the loss by a scaled row, for the table of pair weights `M`. -/
def dt (M : ι → ι → ℝ) (S : ι → κ → ℝ) (W : κ → κ → ℝ) (i : ι) (a : κ) : ℝ :=
  (∑ j, M i j * t S W j a) + ∑ j, M j i * t S W j a

/-- The part of a row's derivative that keeps its length. -/
def along (M : ι → ι → ℝ) (S : ι → κ → ℝ) (W : κ → κ → ℝ) (i : ι) : ℝ :=
  -(∑ a, dt M S W i a * (r S W i * r S W i) * z S W i a) * (1 / 2 * r S W i)

/-- The gradient from the table of pair weights. -/
def byPair (M : ι → ι → ℝ) (S : ι → κ → ℝ) (W : κ → κ → ℝ) (a b : κ) : ℝ :=
  ∑ i, (dt M S W i a * r S W i + (z S W i a * along M S W i + along M S W i * z S W i a)) * S i b

omit [Fintype ι] in
theorem sum_oh (y : ι → γ) (i : ι) (f : γ → ℝ) : ∑ c, f c * oh y i c = f (y i) := by
  simp [oh]

omit [Fintype ι] in
theorem sum_oh' (y : ι → γ) (i : ι) (f : γ → ℝ) : ∑ c, oh y i c * f c = f (y i) := by
  simp [oh]

/-- A sum over the classes of sums over the rows of a class is a sum over the rows. -/
theorem sum_class (y : ι → γ) (f : γ → ℝ) (g : ι → ℝ) : ∑ c, f c * ∑ i, oh y i c * g i = ∑ i, f (y i) * g i := by
  simp only [Finset.mul_sum]
  rw [Finset.sum_comm]
  refine Finset.sum_congr rfl fun i _ => ?_
  rw [← sum_oh' y i (fun c => f c * g i)]
  exact Finset.sum_congr rfl fun c _ => by ring

omit [Fintype γ] [DecidableEq γ] in
/-- A scaled row is of length one. -/
theorem t_self (S : ι → κ → ℝ) (W : κ → κ → ℝ) (i : ι) (h : 0 < sq S W i) : ∑ a, t S W i a * t S W i a = 1 := by
  have h1 : ∑ a, t S W i a * t S W i a = sq S W i * (r S W i * r S W i) := by
    simp only [sq, Finset.sum_mul, t]
    exact Finset.sum_congr rfl fun a _ => by ring
  rw [h1, r, ← mul_inv, Real.mul_self_sqrt h.le, mul_inv_cancel₀ h.ne']

/-- The derivative by a scaled row, from the class sums. -/
theorem dt_eq (y : ι → γ) (inv : ℝ) (M : ι → ι → ℝ) (S : ι → κ → ℝ) (W : κ → κ → ℝ) [DecidableEq ι]
    (hM : ∀ i j, M i j + M j i = if i = j then 0 else inv * (1 - 2 * oh y j (y i))) (i : ι) (a : κ) :
    dt M S W i a = inv * ((∑ c, cs y S W c a) - 2 * cs y S W (y i) a + t S W i a) := by
  have h1 : dt M S W i a = ∑ j, (if i = j then 0 else inv * (1 - 2 * oh y j (y i))) * t S W j a := by
    rw [dt, ← Finset.sum_add_distrib]
    exact Finset.sum_congr rfl fun j _ => by rw [← hM i j]; ring
  have h2 : ∑ c, cs y S W c a = ∑ j, t S W j a := by
    have := sum_class y (fun _ => 1) (fun j => t S W j a)
    simpa [cs] using this
  have h3 : ∑ j, (if i = j then 0 else inv * (1 - 2 * oh y j (y i))) * t S W j a
      = ∑ j, (inv * (1 - 2 * oh y j (y i)) * t S W j a + (if i = j then inv * t S W j a else 0)) := by
    refine Finset.sum_congr rfl fun j _ => ?_
    by_cases hij : i = j
    · subst hij; simp [oh]; ring
    · simp [hij]
  rw [h1, h3, Finset.sum_add_distrib, h2, cs]
  simp only [Finset.sum_ite_eq, Finset.mem_univ, if_true]
  have h4 : ∑ j, inv * (1 - 2 * oh y j (y i)) * t S W j a = inv * ∑ j, t S W j a - 2 * inv * ∑ j, oh y j (y i) * t S W j a := by
    rw [Finset.mul_sum, Finset.mul_sum, ← Finset.sum_sub_distrib]
    exact Finset.sum_congr rfl fun j _ => by ring
  rw [h4]; ring

/-- The derivative by a scaled row, along that row. -/
theorem dt_self (y : ι → γ) (inv : ℝ) (M : ι → ι → ℝ) (S : ι → κ → ℝ) (W : κ → κ → ℝ) [DecidableEq ι]
    (hM : ∀ i j, M i j + M j i = if i = j then 0 else inv * (1 - 2 * oh y j (y i))) (i : ι) (h : 0 < sq S W i) :
    ∑ a, dt M S W i a * t S W i a = rr y inv S W i := by
  simp only [dt_eq y inv M S W hM]
  rw [rr, sum_oh]
  have h1 : ∑ c, tcs y S W i c = ∑ a, t S W i a * ∑ c, cs y S W c a := by
    simp only [tcs]; rw [Finset.sum_comm]
    exact Finset.sum_congr rfl fun a _ => by rw [Finset.mul_sum]
  rw [h1, ← t_self S W i h, tcs]
  simp only [Finset.mul_sum, ← Finset.sum_sub_distrib, ← Finset.sum_add_distrib]
  refine Finset.sum_congr rfl fun a _ => ?_
  simp only [← Finset.mul_sum]
  ring

/-- The two forms of the gradient are equal. -/
theorem byPair_eq (y : ι → γ) (inv : ℝ) (M : ι → ι → ℝ) (S : ι → κ → ℝ) (W : κ → κ → ℝ) [DecidableEq ι]
    (hM : ∀ i j, M i j + M j i = if i = j then 0 else inv * (1 - 2 * oh y j (y i))) (h : ∀ i, 0 < sq S W i) (a b : κ) :
    byPair M S W a b = byClass y inv S W a b := by
  have hal : ∀ i, along M S W i = -(1 / 2) * rr y inv S W i * r S W i * r S W i := by
    intro i
    rw [← dt_self y inv M S W hM i (h i), along]
    simp only [Finset.mul_sum, Finset.sum_mul, neg_mul, ← Finset.sum_neg_distrib]
    exact Finset.sum_congr rfl fun a _ => by simp only [t]; ring
  have hT : ∀ a, ∑ c, cs y S W c a = ∑ j, t S W j a := by
    intro a
    have := sum_class y (fun _ => 1) (fun j => t S W j a)
    simpa [cs] using this
  have hP : ∑ c, ps y S W c b = ∑ i, r S W i * S i b := by
    have := sum_class y (fun _ => 1) (fun j => r S W j * S j b)
    simp only [one_mul] at this
    rw [← this]
    exact Finset.sum_congr rfl fun c _ => Finset.sum_congr rfl fun i _ => by ring
  have hC : ∑ c, cs y S W c a * (inv * ((∑ c', ps y S W c' b) - 2 * ps y S W c b))
      = ∑ i, inv * ((∑ c, cs y S W c a) - 2 * cs y S W (y i) a) * (r S W i * S i b) := by
    have h1 : ∑ i, cs y S W (y i) a * (r S W i * S i b) = ∑ c, cs y S W c a * ps y S W c b := by
      rw [← sum_class y (fun c => cs y S W c a) (fun i => r S W i * S i b)]
      refine Finset.sum_congr rfl fun c _ => congrArg _ (Finset.sum_congr rfl fun i _ => by ring)
    have h2 : ∑ i, inv * ((∑ c, cs y S W c a) - 2 * cs y S W (y i) a) * (r S W i * S i b)
        = inv * ((∑ c, cs y S W c a) * ∑ i, r S W i * S i b) - 2 * inv * ∑ i, cs y S W (y i) a * (r S W i * S i b) := by
      rw [Finset.mul_sum, Finset.mul_sum, Finset.mul_sum, ← Finset.sum_sub_distrib]
      exact Finset.sum_congr rfl fun i _ => by ring
    rw [h2, h1, ← hP, Finset.sum_mul, Finset.mul_sum, Finset.mul_sum, ← Finset.sum_sub_distrib]
    exact Finset.sum_congr rfl fun c _ => by ring
  rw [byClass, hC, byPair, ← Finset.sum_add_distrib]
  refine Finset.sum_congr rfl fun i _ => ?_
  rw [hal, dt_eq y inv M S W hM]
  simp only [t]
  ring

end Cert.Loss

end
-- ==== Proof.Words.lean ====
module

public import Mathlib.Tactic.NormNum
public import Idealize.ShloMosaic.Lib.Pointwise

/-!
The real numbers that the programs' number constants stand for.
-/

@[expose] public section

noncomputable section

namespace Cert.Words

open Idealize.ShloMosaic

theorem two : Ideal.ofBits .f32 0x40000000#32 = ((2 : ℝ) : EReal) := by simp [Ideal.ofBits, Ideal.ieee, -EReal.coe_mul]; norm_num
theorem one : Ideal.ofBits .f32 0x3F800000#32 = ((1 : ℝ) : EReal) := by rw [Ideal.ofBits_one_f32]; norm_cast
theorem zero : Ideal.ofBits .f32 0x00000000#32 = ((0 : ℝ) : EReal) := by rw [Ideal.ofBits_zero_f32]; norm_cast
theorem n2048 : Ideal.ofBits .f32 0x45000000#32 = ((2048 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem quarter : Ideal.ofBits .f32 0x3E800000#32 = ((1 / 4 : ℝ) : EReal) := by
  simp [Ideal.ofBits, Ideal.ieee, -EReal.coe_mul]; norm_num
theorem negTwo : Ideal.ofBits .f32 0xC0000000#32 = ((-2 : ℝ) : EReal) := by
  simp [Ideal.ofBits, Ideal.ieee, -EReal.coe_mul, -EReal.coe_neg]; norm_num
theorem three : Ideal.ofBits .f32 0x40400000#32 = ((3 : ℝ) : EReal) := by
  simp [Ideal.ofBits, Ideal.ieee, -EReal.coe_mul]; norm_num
theorem n9 : Ideal.ofBits .f32 0x41100000#32 = ((9 : ℝ) : EReal) := by
  simp [Ideal.ofBits, Ideal.ieee, -EReal.coe_mul]; norm_num
theorem n10 : Ideal.ofBits .f32 0x41200000#32 = ((10 : ℝ) : EReal) := by
  simp [Ideal.ofBits, Ideal.ieee, -EReal.coe_mul]; norm_num
theorem n999 : Ideal.ofBits .f32 0x4479C000#32 = ((999 : ℝ) : EReal) := by
  simp [Ideal.ofBits, Ideal.ieee, -EReal.coe_mul]; norm_num
theorem n1000 : Ideal.ofBits .f32 0x447A0000#32 = ((1000 : ℝ) : EReal) := by
  simp [Ideal.ofBits, Ideal.ieee, -EReal.coe_mul]; norm_num
theorem n1e8 : Ideal.ofBits .f32 0x4CBEBC20#32 = ((100000000 : ℝ) : EReal) := by
  simp [Ideal.ofBits, Ideal.ieee, -EReal.coe_mul]; norm_num
theorem inf : Ideal.ofBits .f32 0x7F800000#32 = (⊤ : EReal) := by simp [Ideal.ofBits, Ideal.ieee]

/-- The decay of the mean of the gradient. -/
def b1 : ℝ := 15099494 / 2 ^ 24
/-- The weight of the new gradient in its mean. -/
def c1 : ℝ := 13421773 / 2 ^ 27
/-- The decay of the mean of the squared gradient. -/
def b2 : ℝ := 16760439 / 2 ^ 24
/-- The weight of the new squared gradient in its mean. -/
def c2 : ℝ := 8589935 / 2 ^ 33
/-- The guard of the normalisation. -/
def tiny : ℝ := 9223372 / 2 ^ 63

theorem b1_eq : Ideal.ofBits .f32 0x3F666666#32 = ((b1 : ℝ) : EReal) := by
  simp [Ideal.ofBits, Ideal.ieee, -EReal.coe_mul, b1]; norm_num
theorem c1_eq : Ideal.ofBits .f32 0x3DCCCCCD#32 = ((c1 : ℝ) : EReal) := by
  simp [Ideal.ofBits, Ideal.ieee, -EReal.coe_mul, c1]; norm_num
theorem b2_eq : Ideal.ofBits .f32 0x3F7FBE77#32 = ((b2 : ℝ) : EReal) := by
  simp [Ideal.ofBits, Ideal.ieee, -EReal.coe_mul, b2]; norm_num
theorem c2_eq : Ideal.ofBits .f32 0x3A83126F#32 = ((c2 : ℝ) : EReal) := by
  simp [Ideal.ofBits, Ideal.ieee, -EReal.coe_mul, c2]; norm_num
theorem tiny_eq : Ideal.ofBits .f32 0x2B8CBCCC#32 = ((tiny : ℝ) : EReal) := by
  simp [Ideal.ofBits, Ideal.ieee, -EReal.coe_mul, tiny]; norm_num

theorem b2_pos : 0 < b2 := by norm_num [b2]
theorem c2_pos : 0 < c2 := by norm_num [c2]
theorem tiny_pos : 0 < tiny := by norm_num [tiny]

end Cert.Words

end
-- ==== Proof.TrainReal.lean ====
module

public import proofs.«01_k».proof.Proof.Step
public import proofs.«01_k».proof.Proof.Loss
public import proofs.«01_k».proof.Proof.Words
public import Idealize.ShloMosaic.Lib.Pointwise

/-!
The gradient in the kernel's training step, on arrays of real numbers.
-/

@[expose] public section

noncomputable section

namespace Cert

open Idealize.ShloMosaic

/-- A table of reals as an array. -/
def up2 {p q : ℕ} (f : Fin p → Fin q → ℝ) : FVec Ideal ⟨2, ![p, q]⟩ .f32 := fun i => ((f (i 0) (i 1) : ℝ) : EReal)

@[simp, pointwise] theorem up2_ix2 {p q : ℕ} (f : Fin p → Fin q → ℝ) (i : Fin p) (j : Fin q) : up2 f (ix2 i j) = ((f i j : ℝ) : EReal) := rfl

/-- An array whose elements are those of a table of reals is that table's array. -/
theorem eq_up2 {p q : ℕ} {x : FVec Ideal ⟨2, ![p, q]⟩ .f32} {f : Fin p → Fin q → ℝ} (h : ∀ i j, x (ix2 i j) = ((f i j : ℝ) : EReal)) :
    x = up2 f := by
  funext k
  rw [eq_ix2 k]
  exact h _ _

/-- A sum of reals, as an extended real. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals, as an extended real. -/
theorem coe_div {x y : ℝ} (h : y ≠ 0) : Ideal.div ((x : ℝ) : EReal) ((y : ℝ) : EReal) = ((x / y : ℝ) : EReal) := by
  rw [Ideal.div_coe h, ← EReal.coe_mul]; congr 1; ring

/-- A root of a real, as an extended real. -/
theorem coe_sqrt {x : ℝ} (h : 0 ≤ x) : Ideal.sqrt ((x : ℝ) : EReal) = ((√x : ℝ) : EReal) := by
  rw [Ideal.sqrt_coe, if_neg h.not_gt]

/-- One over the root of a real, as an extended real. -/
theorem coe_rsqrt {x : ℝ} (h : 0 < x) : Ideal.rsqrt ((x : ℝ) : EReal) = (((√x)⁻¹ : ℝ) : EReal) := by
  rw [Ideal.rsqrt_coe, if_neg h.le.not_gt, if_neg h.ne']

/-- The step size of step `i`, with the corrections of both means folded in. -/
def aR (i : ℕ) : ℝ := (1 / 1000) / (1 - (9 / 10) ^ (i + 1)) * √(1 - (999 / 1000) ^ (i + 1))

/-- The guard at step `i`, with the correction of the mean square folded in. -/
def eR (i : ℕ) : ℝ := 1 / 100000000 * √(1 - (999 / 1000) ^ (i + 1))

theorem eR_pos (i : ℕ) : 0 < eR i := by
  have : ((999 : ℝ) / 1000) ^ (i + 1) < 1 := pow_lt_one₀ (by norm_num) (by norm_num) (by omega)
  unfold eR
  have := Real.sqrt_pos.mpr (sub_pos.mpr this)
  positivity

/-- A state of the training over the reals. -/
structure StR where
  w : Fin 512 → Fin 512 → ℝ
  m : Fin 512 → Fin 512 → ℝ
  v : Fin 512 → Fin 512 → ℝ

/-- One training step over the reals. -/
def stepR (y : Fin 2048 → Fin 64) (inv : ℝ) (S : Fin 2048 → Fin 512 → ℝ) (i : ℕ) (s : StR) : StR :=
  let m := fun a b => Words.b1 * s.m a b + Words.c1 * Loss.byClass y inv S s.w a b
  let v := fun a b => Words.b2 * s.v a b + Words.c2 * Loss.byClass y inv S s.w a b * Loss.byClass y inv S s.w a b
  ⟨fun a b => s.w a b - aR i * m a b / (√(v a b) + eR i), m, v⟩

/-- The state at the start. -/
def startR : StR := ⟨fun a b => if a = b then 1 else 0, fun _ _ => 0, fun _ _ => 0⟩

/-- The state after so many steps. -/
def stR (y : Fin 2048 → Fin 64) (inv : ℝ) (S : Fin 2048 → Fin 512 → ℝ) : ℕ → StR
  | 0 => startR
  | i + 1 => stepR y inv S i (stR y inv S i)

theorem stR_v (y : Fin 2048 → Fin 64) (inv : ℝ) (S : Fin 2048 → Fin 512 → ℝ) : ∀ (i : ℕ) (a b : Fin 512), 0 ≤ (stR y inv S i).v a b
  | 0, _, _ => le_refl _
  | i + 1, a, b => by
    have h := stR_v y inv S i a b
    have h1 := Words.b2_pos
    have h2 := Words.c2_pos
    change 0 ≤ Words.b2 * _ + Words.c2 * _ * _
    have h3 := mul_self_nonneg (Loss.byClass y inv S (stR y inv S i).w a b)
    rw [mul_assoc]
    positivity

namespace KernelIdeal.Train

open Cert.KernelIdeal Cert.KernelIdeal.Gen

/-- What stays the same, over the reals. -/
def argsR (S : Fin 2048 → Fin 512 → ℝ) (y : Fin 2048 → Fin 64) (inv : ℝ) : Args Ideal := ⟨up2 S, up2 (Loss.oh y), (inv : EReal)⟩

theorem argsR_sn (S : Fin 2048 → Fin 512 → ℝ) (y : Fin 2048 → Fin 64) (inv : ℝ) : (argsR S y inv).sn = up2 S := rfl
theorem argsR_oh (S : Fin 2048 → Fin 512 → ℝ) (y : Fin 2048 → Fin 64) (inv : ℝ) : (argsR S y inv).oh = up2 (Loss.oh y) := rfl
theorem argsR_inv (S : Fin 2048 → Fin 512 → ℝ) (y : Fin 2048 → Fin 64) (inv : ℝ) : (argsR S y inv).inv = ((inv : ℝ) : EReal) := rfl

/-- The rows of `ps` of the other classes, less those of the own class. -/
def pdR (S : Fin 2048 → Fin 512 → ℝ) (y : Fin 2048 → Fin 64) (W : Fin 512 → Fin 512 → ℝ) (c : Fin 64) (b : Fin 512) : ℝ :=
  (∑ c', Loss.ps y S W c' b) - 2 * Loss.ps y S W c b

/-- The weighted scaled rows. -/
def twR (S : Fin 2048 → Fin 512 → ℝ) (y : Fin 2048 → Fin 64) (inv : ℝ) (W : Fin 512 → Fin 512 → ℝ) (i : Fin 2048) (a : Fin 512) : ℝ :=
  ((inv - Loss.rr y inv S W i) * Loss.r S W i) * Loss.t S W i a

/-- A state, over the reals. -/
def upSt (s : StR) : State Ideal := ⟨up2 s.w, up2 s.m, up2 s.v⟩

/-- `pd` at an index. -/
theorem pd_at (A : Args Ideal) (w : FVec Ideal S512x512 .f32) (i : Fin 64) (j : Fin 512) :
    pd A w (ix2 i j) = ∑ x, ps A w (ix2 x j) - Ideal.ofBits .f32 0x40000000#32 * ps A w (ix2 i j) := by
  generalize hr : (∑ x, ps A w (ix2 x j) - Ideal.ofBits .f32 0x40000000#32 * ps A w (ix2 i j)) = r
  pointwise [pd]
  exact hr

/-- The gradient at an index. -/
theorem grad_at (A : Args Ideal) (w : FVec Ideal S512x512 .f32) (i : Fin 512) (j : Fin 512) :
    grad A w (ix2 i j) = ∑ x, cs A w (ix2 x i) * (A.inv * pd A w (ix2 x j)) + ∑ x, tw A w (ix2 x i) * A.sn (ix2 x j) := by
  generalize hr : (∑ x, cs A w (ix2 x i) * (A.inv * pd A w (ix2 x j)) + ∑ x, tw A w (ix2 x i) * A.sn (ix2 x j)) = r
  pointwise [grad, gcls, invb]
  exact hr

section
variable (S : Fin 2048 → Fin 512 → ℝ) (y : Fin 2048 → Fin 64) (inv : ℝ) (W : Fin 512 → Fin 512 → ℝ)

theorem z_up : z (argsR S y inv) (up2 W) = up2 (Loss.z S W) := by
  refine eq_up2 fun i j => ?_
  pointwise [z]
  simp only [argsR_sn, up2_ix2, ← EReal.coe_mul, coe_sum, Loss.z]

variable (h : ∀ i, 0 < Loss.sq S W i)
include h

theorem inz_up : inz (argsR S y inv) (up2 W) = up2 (fun i _ => Loss.r S W i) := by
  refine eq_up2 fun i j => ?_
  pointwise [inz]
  simp only [z_up, up2_ix2, ← EReal.coe_mul, coe_sum]
  have hi := h i
  simp only [Loss.sq, Loss.r] at hi ⊢
  exact coe_rsqrt hi

theorem inzb_up : inzb (argsR S y inv) (up2 W) = up2 (fun i _ => Loss.r S W i) := by
  refine eq_up2 fun i j => ?_
  pointwise [inzb]
  simp only [inz_up S y inv W h, up2_ix2]

theorem t_up : t (argsR S y inv) (up2 W) = up2 (Loss.t S W) := by
  refine eq_up2 fun i j => ?_
  pointwise [t]
  simp only [z_up, inzb_up S y inv W h, up2_ix2, ← EReal.coe_mul, Loss.t]

theorem cs_up : cs (argsR S y inv) (up2 W) = up2 (Loss.cs y S W) := by
  refine eq_up2 fun i j => ?_
  pointwise [cs]
  simp only [t_up S y inv W h, argsR_oh, up2_ix2, ← EReal.coe_mul, coe_sum, Loss.cs]

theorem tcs_up : tcs (argsR S y inv) (up2 W) = up2 (Loss.tcs y S W) := by
  refine eq_up2 fun i j => ?_
  pointwise [tcs]
  simp only [t_up S y inv W h, cs_up S y inv W h, up2_ix2, ← EReal.coe_mul, coe_sum, Loss.tcs]

theorem rr_up : rr (argsR S y inv) (up2 W) = up2 (fun i _ => Loss.rr y inv S W i) := by
  refine eq_up2 fun i j => ?_
  pointwise [rr, dif, tsum]
  simp only [tcs_up S y inv W h, argsR_oh, argsR_inv, up2_ix2, Words.two, Words.one, ← EReal.coe_one, ← EReal.coe_mul, coe_sum,
    ← EReal.coe_sub, ← EReal.coe_add, Loss.rr]

theorem ps_up : ps (argsR S y inv) (up2 W) = up2 (Loss.ps y S W) := by
  refine eq_up2 fun i j => ?_
  pointwise [ps]
  simp only [inz_up S y inv W h, argsR_oh, argsR_sn, up2_ix2, ← EReal.coe_mul, coe_sum, Loss.ps]

theorem pd_up : pd (argsR S y inv) (up2 W) = up2 (pdR S y W) := by
  refine eq_up2 fun i j => ?_
  rw [pd_at]
  simp only [ps_up S y inv W h, up2_ix2, Words.two, ← EReal.coe_mul, coe_sum, ← EReal.coe_sub, pdR]

theorem tw_up : tw (argsR S y inv) (up2 W) = up2 (twR S y inv W) := by
  refine eq_up2 fun i j => ?_
  pointwise [tw]
  simp only [rr_up S y inv W h, inz_up S y inv W h, t_up S y inv W h, up2_ix2, argsR_inv, ← EReal.coe_mul, ← EReal.coe_sub, twR]

theorem grad_up : grad (argsR S y inv) (up2 W) = up2 (Loss.byClass y inv S W) := by
  refine eq_up2 fun i j => ?_
  rw [grad_at]
  simp only [cs_up S y inv W h, pd_up S y inv W h, tw_up S y inv W h, argsR_sn, argsR_inv, up2_ix2, ← EReal.coe_mul, coe_sum,
    ← EReal.coe_add, Loss.byClass, pdR, twR]

end

end KernelIdeal.Train

end Cert

end
-- ==== Proof.RefRead.lean ====
module

public import proofs.«01_k».proof.Proof.TrainReal
public import proofs.«01_k».proof.Proof.Gen.ReferenceIdeal.Run
public import Idealize.ShloMosaic.Lib.Pointwise

/-!
The reference's training step at each index.
-/

@[expose] public section

noncomputable section

namespace Cert.ReferenceIdeal.Train

open Idealize.ShloMosaic Idealize.ShloMosaic.TcCoe
open Cert.ReferenceIdeal Cert.ReferenceIdeal.Value

variable (V : Valuation τ sig (Elt Ideal))

/-- The transformed rows. -/
theorem at77 (s : FVec Ideal S2048x512 .f32) (hs : V (Proc.devRef .tc main_v30_0) = s) (w : FVec Ideal S512x512 .f32)
    (hw : V (Proc.devRef .tc main_v30_4) = w) (i : Fin 2048) (j : Fin 512) :
    res_main_while0b_v77 V (ix2 i j) = ∑ x, s (ix2 i x) * w (ix2 j x) := by
  unfold res_main_while0b_v77
  rw [hs, hw]
  generalize hr : ∑ x, s (ix2 i x) * w (ix2 j x) = r
  pointwise
  exact hr

/-- The lengths. -/
theorem at78 (z : FVec Ideal S2048x512 .f32) (hz : res_main_while0b_v77 V = z) (i : Fin 2048) :
    res_main_while0b_v78_0 V (ix2 i 0) = Ideal.sqrt (∑ x, z (ix2 i x) * z (ix2 i x)) := by
  unfold res_main_while0b_v78_0
  rw [hz]
  generalize hr : Ideal.sqrt (∑ x, z (ix2 i x) * z (ix2 i x)) = r
  pointwise
  exact hr

/-- The guarded lengths. -/
theorem at80 (n : FVec Ideal S2048x1 .f32) (hn : res_main_while0b_v78_0 V = n) (i : Fin 2048) :
    res_main_while0b_v80 V (ix2 i 0) = max (n (ix2 i 0)) (Ideal.ofBits .f32 0x2B8CBCCC#32) := by
  unfold res_main_while0b_v80
  rw [hn]
  generalize hr : max (n (ix2 i 0)) (Ideal.ofBits .f32 0x2B8CBCCC#32) = r
  pointwise
  exact hr

/-- The scaled rows. -/
theorem at91 (z : FVec Ideal S2048x512 .f32) (hz : res_main_while0b_v77 V = z) (g : FVec Ideal S2048x1 .f32) (hg : res_main_while0b_v80 V = g)
    (i : Fin 2048) (j : Fin 512) :
    res_main_while0b_v91 V (ix2 i j) = Ideal.div (z (ix2 i j)) (g (ix2 i 0)) := by
  unfold res_main_while0b_v91
  rw [hz, hg]
  generalize hr : Ideal.div (z (ix2 i j)) (g (ix2 i 0)) = r
  pointwise
  exact hr

/-- The scaled rows, transposed. -/
theorem at95 (t : FVec Ideal S2048x512 .f32) (ht : res_main_while0b_v91 V = t)
    (i : Fin 2048) (j : Fin 512) :
    res_main_while0b_v95 V (ix2 j i) = t (ix2 i j) := by
  unfold res_main_while0b_v95
  rw [ht]
  generalize hr : t (ix2 i j) = r
  pointwise
  exact hr

/-- The pair weights. -/
theorem at100 (M : FVec Ideal S2048x2048 .f32) (hM : V (Proc.devRef .tc main_v30_1) = M)
    (i j : Fin 2048) :
    res_main_while0b_v100 V (ix2 i j) = M (ix2 i j) := by
  unfold res_main_while0b_v100
  rw [hM]
  generalize hr : M (ix2 i j) = r
  pointwise
  exact hr

/-- The derivative by the scaled rows. -/
theorem at105 (M : FVec Ideal S2048x2048 .f32) (hM : res_main_while0b_v100 V = M) (u : FVec Ideal S512x2048 .f32)
    (hu : res_main_while0b_v95 V = u) (t : FVec Ideal S2048x512 .f32) (ht : res_main_while0b_v91 V = t) (i : Fin 2048) (j : Fin 512) :
    res_main_while0b_v105 V (ix2 i j) = ∑ x, M (ix2 i x) * u (ix2 j x) + ∑ x, M (ix2 x i) * t (ix2 x j) := by
  unfold res_main_while0b_v105
  rw [hM, hu, ht]
  generalize hr : ∑ x, M (ix2 i x) * u (ix2 j x) + ∑ x, M (ix2 x i) * t (ix2 x j) = r
  pointwise
  exact hr

/-- The part of a row's derivative that keeps its length. -/
theorem at4 (d : FVec Ideal S2048x512 .f32) (hd : res_main_while0b_v105 V = d) (g : FVec Ideal S2048x1 .f32) (hg : res_main_while0b_v80 V = g)
    (z : FVec Ideal S2048x512 .f32) (hz : res_main_while0b_v77 V = z) (n : FVec Ideal S2048x1 .f32) (hn : res_main_while0b_v78_0 V = n) (i : Fin 2048) (j : Fin 512) :
    res_main_while0b_call4_v2 V (ix2 i j) = -(∑ x, d (ix2 i x) * Ideal.div (1) (g (ix2 i 0) * g (ix2 i 0)) * z (ix2 i x)) * (if Ideal.ofBits .f32 0x2B8CBCCC#32 < n (ix2 i 0) then 1 else (if n (ix2 i 0) = Ideal.ofBits .f32 0x2B8CBCCC#32 then Ideal.ofBits .f32 0x3F000000#32 else 0)) * Ideal.div (Ideal.ofBits .f32 0x3F000000#32) (n (ix2 i 0)) := by
  unfold res_main_while0b_call4_v2
  rw [hd, hg, hz, hn]
  generalize hr : -(∑ x, d (ix2 i x) * Ideal.div (1) (g (ix2 i 0) * g (ix2 i 0)) * z (ix2 i x)) * (if Ideal.ofBits .f32 0x2B8CBCCC#32 < n (ix2 i 0) then 1 else (if n (ix2 i 0) = Ideal.ofBits .f32 0x2B8CBCCC#32 then Ideal.ofBits .f32 0x3F000000#32 else 0)) * Ideal.div (Ideal.ofBits .f32 0x3F000000#32) (n (ix2 i 0)) = r
  pointwise
  simp only [Finset.univ_unique, Finset.sum_singleton]
  exact hr

/-- The gradient. -/
theorem at119 (d : FVec Ideal S2048x512 .f32) (hd : res_main_while0b_v105 V = d) (g : FVec Ideal S2048x1 .f32) (hg : res_main_while0b_v80 V = g)
    (z : FVec Ideal S2048x512 .f32) (hz : res_main_while0b_v77 V = z) (q : FVec Ideal S2048x512 .f32) (hq : res_main_while0b_call4_v2 V = q)
    (s : FVec Ideal S2048x512 .f32) (hs : V (Proc.devRef .tc main_v30_0) = s) (i j : Fin 512) :
    res_main_while0b_v119 V (ix2 i j) = ∑ x, (Ideal.div (d (ix2 x i)) (g (ix2 x 0)) + (z (ix2 x i) * q (ix2 x i) + q (ix2 x i) * z (ix2 x i))) * s (ix2 x j) := by
  unfold res_main_while0b_v119
  rw [hd, hg, hz, hq, hs]
  generalize hr : ∑ x, (Ideal.div (d (ix2 x i)) (g (ix2 x 0)) + (z (ix2 x i) * q (ix2 x i) + q (ix2 x i) * z (ix2 x i))) * s (ix2 x j) = r
  pointwise
  exact hr

/-- The mean of the gradient. -/
theorem at124 (G : FVec Ideal S512x512 .f32) (hG : res_main_while0b_v119 V = G) (m : FVec Ideal S512x512 .f32)
    (hm : V (Proc.devRef .tc main_v30_5) = m) (i j : Fin 512) :
    res_main_while0b_v124 V (ix2 i j) = Ideal.ofBits .f32 0x3F666666#32 * m (ix2 i j) + Ideal.ofBits .f32 0x3DCCCCCD#32 * G (ix2 i j) := by
  unfold res_main_while0b_v124
  rw [hG, hm]
  generalize hr : Ideal.ofBits .f32 0x3F666666#32 * m (ix2 i j) + Ideal.ofBits .f32 0x3DCCCCCD#32 * G (ix2 i j) = r
  pointwise
  exact hr

/-- The mean of the squared gradient. -/
theorem at130 (G : FVec Ideal S512x512 .f32) (hG : res_main_while0b_v119 V = G) (v : FVec Ideal S512x512 .f32)
    (hv : V (Proc.devRef .tc main_v30_6) = v) (i j : Fin 512) :
    res_main_while0b_v130 V (ix2 i j) = Ideal.ofBits .f32 0x3F7FBE77#32 * v (ix2 i j) + Ideal.ofBits .f32 0x3A83126F#32 * G (ix2 i j) * G (ix2 i j) := by
  unfold res_main_while0b_v130
  rw [hG, hv]
  generalize hr : Ideal.ofBits .f32 0x3F7FBE77#32 * v (ix2 i j) + Ideal.ofBits .f32 0x3A83126F#32 * G (ix2 i j) * G (ix2 i j) = r
  pointwise
  exact hr

/-- A power of the decay. -/
theorem at74 (p : FVec Ideal S_ .f32) (hp : V (Proc.devRef .tc main_v30_7) = p) (i : S_.Idx) :
    res_main_while0b_v74 V i = Ideal.div (Ideal.ofBits .f32 0x41100000#32) (Ideal.ofBits .f32 0x41200000#32) * p i := by
  unfold res_main_while0b_v74
  rw [hp]
  generalize hr : Ideal.div (Ideal.ofBits .f32 0x41100000#32) (Ideal.ofBits .f32 0x41200000#32) * p i = r
  pointwise
  exact hr

/-- A power of the decay. -/
theorem at75 (p : FVec Ideal S_ .f32) (hp : V (Proc.devRef .tc main_v30_8) = p) (i : S_.Idx) :
    res_main_while0b_v75 V i = Ideal.div (Ideal.ofBits .f32 0x4479C000#32) (Ideal.ofBits .f32 0x447A0000#32) * p i := by
  unfold res_main_while0b_v75
  rw [hp]
  generalize hr : Ideal.div (Ideal.ofBits .f32 0x4479C000#32) (Ideal.ofBits .f32 0x447A0000#32) * p i = r
  pointwise
  exact hr

/-- The matrix after the step. -/
theorem atW (w : FVec Ideal S512x512 .f32) (hw : V (Proc.devRef .tc main_v30_4) = w) (m v : FVec Ideal S512x512 .f32)
    (hm : res_main_while0b_v124 V = m) (hv : res_main_while0b_v130 V = v) (p q : EReal)
    (hp : res_main_while0b_v74 V = fun _ => p) (hq : res_main_while0b_v75 V = fun _ => q) (i j : Fin 512) :
    step_main_v30_4 V (ix2 i j) = w (ix2 i j) - Ideal.div
      (Ideal.div (1) (Ideal.ofBits .f32 0x447A0000#32) * Ideal.div (m (ix2 i j)) (1 - p))
      (Ideal.sqrt (Ideal.div (v (ix2 i j)) (1 - q))
        + Ideal.div (1) (Ideal.ofBits .f32 0x4CBEBC20#32)) := by
  unfold step_main_v30_4
  rw [hw, hm, hv, hp, hq]
  change subf _ _ _ = _
  generalize hr : w (ix2 i j) - Ideal.div
      (Ideal.div (1) (Ideal.ofBits .f32 0x447A0000#32) * Ideal.div (m (ix2 i j)) (1 - p))
      (Ideal.sqrt (Ideal.div (v (ix2 i j)) (1 - q))
        + Ideal.div (1) (Ideal.ofBits .f32 0x4CBEBC20#32)) = r
  pointwise
  exact hr

end Cert.ReferenceIdeal.Train

end
-- ==== Proof.RefReal.lean ====
module

public import proofs.«01_k».proof.Proof.RefRead

/-!
The reference's training step, on arrays of real numbers.
-/

@[expose] public section

noncomputable section

namespace Cert.ReferenceIdeal.Train

open Idealize.ShloMosaic Idealize.ShloMosaic.TcCoe
open Cert.ReferenceIdeal Cert.ReferenceIdeal.Value

/-- What the loop carries after `i` steps is, on reals, the support rows `S`, the pair weights `M` and the state `s`. -/
structure Carries (V : Valuation τ sig (Elt Ideal)) (S : Fin 2048 → Fin 512 → ℝ) (M : Fin 2048 → Fin 2048 → ℝ) (i : ℕ) (s : StR) : Prop where
  sup : V (Proc.devRef .tc main_v30_0) = up2 S
  mask : V (Proc.devRef .tc main_v30_1) = up2 M
  w : V (Proc.devRef .tc main_v30_4) = up2 s.w
  m : V (Proc.devRef .tc main_v30_5) = up2 s.m
  v : V (Proc.devRef .tc main_v30_6) = up2 s.v
  p : V (Proc.devRef .tc main_v30_7) = fun _ => ((((9 : ℝ) / 10) ^ i : ℝ) : EReal)
  q : V (Proc.devRef .tc main_v30_8) = fun _ => ((((999 : ℝ) / 1000) ^ i : ℝ) : EReal)

section
variable {V : Valuation τ sig (Elt Ideal)} {S : Fin 2048 → Fin 512 → ℝ} {M : Fin 2048 → Fin 2048 → ℝ} {i : ℕ} {s : StR}

theorem z_up (h : Carries V S M i s) : res_main_while0b_v77 V = up2 (Loss.z S s.w) := by
  refine eq_up2 fun a b => ?_
  rw [at77 V _ h.sup _ h.w]
  simp only [up2_ix2, ← EReal.coe_mul, coe_sum, Loss.z]

theorem len_up (h : Carries V S M i s) : res_main_while0b_v78_0 V = up2 (fun a _ => √(Loss.sq S s.w a)) := by
  refine eq_up2 fun a b => ?_
  obtain rfl : b = 0 := Subsingleton.elim _ _
  rw [at78 V _ (z_up h)]
  simp only [up2_ix2, ← EReal.coe_mul, coe_sum]
  exact coe_sqrt (Finset.sum_nonneg fun _ _ => mul_self_nonneg _)

/-- The two roots of a positive number multiply to it. -/
theorem Adam (w m v p q : ℝ) (hp : p < 1) (hq : q < 1) (hv : 0 ≤ v) :
    w - 1 / 1000 * (m / (1 - p)) / (√(v / (1 - q)) + 1 / 100000000)
      = w - 1 / 1000 / (1 - p) * √(1 - q) * m / (√v + 1 / 100000000 * √(1 - q)) := by
  have hc : 0 < √(1 - q) := Real.sqrt_pos.mpr (sub_pos.mpr hq)
  have h1 : 1 - p ≠ 0 := (sub_pos.mpr hp).ne'
  have h2 : 0 ≤ √v := Real.sqrt_nonneg v
  have h3 : √v / √(1 - q) + 1 / 100000000 ≠ 0 := by positivity
  have h4 : √v + 1 / 100000000 * √(1 - q) ≠ 0 := by positivity
  have h5 : √v + 1 / 100000000 * √(1 - q) = (√v / √(1 - q) + 1 / 100000000) * √(1 - q) := by field_simp
  rw [Real.sqrt_div hv, h5]
  field_simp

variable (h : Carries V S M i s) (hn : ∀ a, Words.tiny < √(Loss.sq S s.w a))
include h hn

theorem guard_up : res_main_while0b_v80 V = up2 (fun a _ => √(Loss.sq S s.w a)) := by
  refine eq_up2 fun a b => ?_
  obtain rfl : b = 0 := Subsingleton.elim _ _
  rw [at80 V _ (len_up h)]
  simp only [up2_ix2, Words.tiny_eq]
  exact max_eq_left (EReal.coe_le_coe_iff.mpr (hn a).le)

theorem t_up : res_main_while0b_v91 V = up2 (Loss.t S s.w) := by
  refine eq_up2 fun a b => ?_
  rw [at91 V _ (z_up h) _ (guard_up h hn)]
  simp only [up2_ix2]
  rw [coe_div (Words.tiny_pos.trans (hn a)).ne', Loss.t, Loss.r, div_eq_mul_inv]

theorem dt_up : res_main_while0b_v105 V = up2 (Loss.dt M S s.w) := by
  have h95 : res_main_while0b_v95 V = up2 (fun a b => Loss.t S s.w b a) := by
    refine eq_up2 fun a b => ?_
    rw [at95 V _ (t_up h hn), up2_ix2]
  have h100 : res_main_while0b_v100 V = up2 M := by
    refine eq_up2 fun a b => ?_
    rw [at100 V _ h.mask, up2_ix2]
  refine eq_up2 fun a b => ?_
  rw [at105 V _ h100 _ h95 _ (t_up h hn)]
  simp only [up2_ix2, ← EReal.coe_mul, coe_sum, ← EReal.coe_add, Loss.dt]

theorem along_up : res_main_while0b_call4_v2 V = up2 (fun a _ => Loss.along M S s.w a) := by
  refine eq_up2 fun a b => ?_
  rw [at4 V _ (dt_up h hn) _ (guard_up h hn) _ (z_up h) _ (len_up h)]
  have h0 := (Words.tiny_pos.trans (hn a)).ne'
  simp only [up2_ix2, Words.tiny_eq, Words.half, EReal.coe_lt_coe_iff]
  rw [if_pos (hn a), mul_one, ← EReal.coe_mul, ← EReal.coe_one, coe_div (mul_ne_zero h0 h0), coe_div h0]
  simp only [← EReal.coe_mul, coe_sum, ← EReal.coe_neg]
  rw [Loss.along, Loss.r]
  simp only [one_div, mul_inv, div_eq_mul_inv, one_mul]

theorem grad_up : res_main_while0b_v119 V = up2 (Loss.byPair M S s.w) := by
  refine eq_up2 fun a b => ?_
  rw [at119 V _ (dt_up h hn) _ (guard_up h hn) _ (z_up h) _ (along_up h hn) _ h.sup]
  have h0 (x) := (Words.tiny_pos.trans (hn x)).ne'
  simp only [up2_ix2, coe_div (h0 _), ← EReal.coe_mul, ← EReal.coe_add, coe_sum, Loss.byPair, Loss.r, div_eq_mul_inv]

variable (y : Fin 2048 → Fin 64) (inv : ℝ)
  (hM : ∀ i j, M i j + M j i = if i = j then 0 else inv * (1 - 2 * Loss.oh y j (y i)))
  (hs : ∀ a b, 0 ≤ (stepR y inv S i s).v a b)
include hM hs

/-- A step keeps what the loop carries equal to the state over the reals. -/
theorem step_carries : Carries (STEP V) S M (i + 1) (stepR y inv S i s) := by
  have hg : res_main_while0b_v119 V = up2 (Loss.byClass y inv S s.w) := by
    rw [grad_up h hn]
    congr 1
    funext a b
    exact Loss.byPair_eq y inv M S s.w hM (fun x => Real.sqrt_pos.mp (Words.tiny_pos.trans (hn x))) a b
  have hm : res_main_while0b_v124 V = up2 (stepR y inv S i s).m := by
    refine eq_up2 fun a b => ?_
    rw [at124 V _ hg _ h.m]
    simp only [up2_ix2, Words.b1_eq, Words.c1_eq, ← EReal.coe_mul, ← EReal.coe_add, stepR]
  have hv : res_main_while0b_v130 V = up2 (stepR y inv S i s).v := by
    refine eq_up2 fun a b => ?_
    rw [at130 V _ hg _ h.v]
    simp only [up2_ix2, Words.b2_eq, Words.c2_eq, ← EReal.coe_mul, ← EReal.coe_add, stepR]
  have hp : res_main_while0b_v74 V = fun _ => ((((9 : ℝ) / 10) ^ (i + 1) : ℝ) : EReal) := by
    funext k
    rw [at74 V _ h.p, Words.n9, Words.n10, coe_div (by norm_num), ← EReal.coe_mul, pow_succ']
  have hq : res_main_while0b_v75 V = fun _ => ((((999 : ℝ) / 1000) ^ (i + 1) : ℝ) : EReal) := by
    funext k
    rw [at75 V _ h.q, Words.n999, Words.n1000, coe_div (by norm_num), ← EReal.coe_mul, pow_succ']
  have hw : step_main_v30_4 V = up2 (stepR y inv S i s).w := by
    refine eq_up2 fun a b => ?_
    have h1 : ((9 : ℝ) / 10) ^ (i + 1) < 1 := pow_lt_one₀ (by norm_num) (by norm_num) (by omega)
    have h2 : ((999 : ℝ) / 1000) ^ (i + 1) < 1 := pow_lt_one₀ (by norm_num) (by norm_num) (by omega)
    have h3 := sub_pos.mpr h1
    have h4 := sub_pos.mpr h2
    have h5 : 0 < √((stepR y inv S i s).v a b / (1 - (999 / 1000) ^ (i + 1))) + 1 / 100000000 :=
      add_pos_of_nonneg_of_pos (Real.sqrt_nonneg _) (by norm_num)
    rw [atW V _ h.w _ _ hm hv _ _ hp hq, Words.n1000, Words.n1e8]
    simp only [up2_ix2, ← EReal.coe_one, ← EReal.coe_sub]
    rw [coe_div h3.ne', coe_div h4.ne', coe_div (y := 1000) (by norm_num), coe_div (y := 100000000) (by norm_num), coe_sqrt (div_nonneg (hs a b) h4.le), ← EReal.coe_add,
      ← EReal.coe_mul, coe_div h5.ne', ← EReal.coe_sub]
    congr 1
    exact Adam _ _ _ _ _ h1 h2 (hs a b)
  refine ⟨?_, ?_, ?_, ?_, ?_, ?_, ?_⟩
  · rw [STEP_main_v30_0]; exact h.sup
  · rw [STEP_main_v30_1]; exact h.mask
  · rw [STEP_main_v30_4]; exact hw
  · rw [STEP_main_v30_5]; exact hm
  · rw [STEP_main_v30_6]; exact hv
  · rw [STEP_main_v30_7]; exact hp
  · rw [STEP_main_v30_8]; exact hq

end

/-- What the loop carries after so many steps, as long as no row is shorter than the guard. -/
theorem steps_carry {V : Valuation τ sig (Elt Ideal)} {S : Fin 2048 → Fin 512 → ℝ} {M : Fin 2048 → Fin 2048 → ℝ}
    (y : Fin 2048 → Fin 64) (inv : ℝ) (hM : ∀ i j, M i j + M j i = if i = j then 0 else inv * (1 - 2 * Loss.oh y j (y i)))
    (h : Carries V S M 0 startR) : ∀ i, (∀ k, k < i → ∀ a, Words.tiny < √(Loss.sq S (stR y inv S k).w a)) →
      Carries (STEP^[i] V) S M i (stR y inv S i)
  | 0, _ => h
  | i + 1, hn => by
    rw [Function.iterate_succ_apply']
    exact step_carries (steps_carry y inv hM h i fun k hk => hn k (by omega)) (hn i (by omega)) y inv hM (stR_v y inv S (i + 1))

end Cert.ReferenceIdeal.Train

end
-- ==== Proof.PreRead.lean ====
module

public import proofs.«01_k».proof.Proof.PreWalk
public import proofs.«01_k».proof.Proof.RefReal
public import Idealize.ShloMosaic.Lib.ReduceAll
public import Idealize.ShloMosaic.Lib.WordCmp

/-!
The condition on the inputs, read at each index.
-/

@[expose] public section

noncomputable section

namespace Cert.Pre_meaningful

open Idealize.ShloMosaic

/-- The shapes of the condition's operations fit. -/
instance facts : Facts := by constructor <;> decide

/-- The training step of the condition is the one of the reference. -/
theorem adam_eq (V : Valuation Cert.ReferenceIdeal.τ Cert.ReferenceIdeal.sig (Elt Ideal)) :
    adam (F := Ideal) (V (Proc.devRef .tc Cert.ReferenceIdeal.main_v30_0)) (V (Proc.devRef .tc Cert.ReferenceIdeal.main_v30_1))
        (V (Proc.devRef .tc Cert.ReferenceIdeal.main_v30_4), V (Proc.devRef .tc Cert.ReferenceIdeal.main_v30_5),
          V (Proc.devRef .tc Cert.ReferenceIdeal.main_v30_6), V (Proc.devRef .tc Cert.ReferenceIdeal.main_v30_7),
          V (Proc.devRef .tc Cert.ReferenceIdeal.main_v30_8))
      = ((Cert.ReferenceIdeal.Value.step_main_v30_4 V, Cert.ReferenceIdeal.Value.step_main_v30_5 V,
          Cert.ReferenceIdeal.Value.step_main_v30_6 V, Cert.ReferenceIdeal.Value.step_main_v30_7 V,
          Cert.ReferenceIdeal.Value.step_main_v30_8 V) : State Ideal) := by
  rfl

/-- The lengths of the rows transformed are the reference's. -/
theorem len_eq (V : Valuation Cert.ReferenceIdeal.τ Cert.ReferenceIdeal.sig (Elt Ideal)) :
    fn_norm_1 (F := Ideal) (rows (F := Ideal) (V (Proc.devRef .tc Cert.ReferenceIdeal.main_v30_0)) (V (Proc.devRef .tc Cert.ReferenceIdeal.main_v30_4)))
      = (Cert.ReferenceIdeal.Value.res_main_while0b_v78_0 V : FVec Ideal S2048x1 .f32) := rfl

/-- A bit made of a truth value is one when it holds. -/
theorem ofBool_one {p : Prop} [Decidable p] : BitVec.ofBool (decide p) = 1#1 ↔ p := by
  by_cases h : p <;> simp [h]

theorem andi_one : ∀ {p q : BitVec 1}, IntOp.andi p q = 1#1 ↔ p = 1#1 ∧ q = 1#1 := by decide

theorem ori_one : ∀ {p q : BitVec 1}, IntOp.ori p q = 1#1 ↔ p = 1#1 ∨ q = 1#1 := by decide

/-- Choosing by a bit made of a truth value. -/
theorem select_ofBool {p : Prop} [Decidable p] (x y : EReal) : Scalar.select (BitVec.ofBool (decide p)) x y = if p then x else y := by
  by_cases h : p <;> simp [h, Scalar.select]

theorem addi_zero (x : BitVec 32) : IntOp.addi x 0#32 = x := by simp [IntOp.addi]

theorem norm_at (x : FVec Ideal S2048x512 .f32) (i : Fin 2048) :
    fn_norm x (ix2 i 0) = Ideal.sqrt (∑ k, x (ix2 i k) * x (ix2 i k)) := by
  generalize hr : Ideal.sqrt (∑ k, x (ix2 i k) * x (ix2 i k)) = r
  pointwise [fn_norm]
  exact hr

theorem norm_0_at (x : FVec Ideal S4096x512 .f32) (i : Fin 4096) :
    fn_norm_0 x (ix2 i 0) = Ideal.sqrt (∑ k, x (ix2 i k) * x (ix2 i k)) := by
  generalize hr : Ideal.sqrt (∑ k, x (ix2 i k) * x (ix2 i k)) = r
  pointwise [fn_norm_0]
  exact hr

theorem supIn_at (x : FVec Ideal S2048x512 .f32) (i : Fin 2048) (j : Fin 512) :
    supIn x (ix2 i j) = Ideal.div (x (ix2 i j)) (max (Ideal.sqrt (∑ k, x (ix2 i k) * x (ix2 i k))) (Ideal.ofBits .f32 0x2B8CBCCC#32)) := by
  rw [← norm_at]
  unfold supIn
  generalize fn_norm x = n
  generalize hr : Ideal.div (x (ix2 i j)) (max (n (ix2 i 0)) (Ideal.ofBits .f32 0x2B8CBCCC#32)) = r
  pointwise
  exact hr

theorem labIn_at (y : IVec S2048 32) (i j : Fin 2048) : labIn y (ix2 i j) = y (ix1 j) := by
  pointwise [labIn]

theorem sameIn_at (y : IVec S2048 32) (i j : Fin 2048) : sameIn y (ix2 i j) = IntOp.cmpi .eq (y (ix1 j)) (y (ix1 i)) := by
  rw [← labIn_at y i j, ← labIn_at y j i]
  unfold sameIn
  generalize labIn y = l
  generalize hr : IntOp.cmpi .eq (l (ix2 i j)) (l (ix2 j i)) = r
  pointwise
  exact hr

theorem signIn_at (y : IVec S2048 32) (i j : Fin 2048) :
    signIn (F := Ideal) y (ix2 i j) = if i < j then (if y (ix1 j) = y (ix1 i) then ((-1 : ℝ) : EReal) else ((1 : ℝ) : EReal)) else ((0 : ℝ) : EReal) := by
  have h := sameIn_at y i j
  unfold signIn
  revert h
  generalize sameIn y = e
  intro h
  pointwise [fn_triu, fn_where]
  rw [h, addi_zero, WordCmp.cmpi_sge_ofNat (by omega) (by omega), WordCmp.cmpi_eq_eq, select_ofBool, select_ofBool, Words.two, ← EReal.coe_zero,
    ← EReal.coe_one]
  by_cases hij : i < j
  · rw [if_neg (by simpa using hij), if_pos hij]
    split_ifs
    · rw [← EReal.coe_sub]; norm_num
    · rw [← EReal.coe_sub]; norm_num
  · rw [if_pos (by simpa using hij), if_neg hij]

theorem totalIn_at (y : IVec S2048 32) (i : S_.Idx) : totalIn (F := Ideal) y i = ∑ a, ∑ b, signIn (F := Ideal) y (ix2 a b) := by
  unfold totalIn
  generalize signIn (F := Ideal) y = s
  generalize hr : ∑ a, ∑ b, s (ix2 a b) = r
  pointwise
  exact hr

theorem maskIn_at (y : IVec S2048 32) (i j : Fin 2048) (t : EReal) (ht : totalIn (F := Ideal) y = fun _ => t) :
    maskIn (F := Ideal) y (ix2 i j) = Ideal.div (signIn (F := Ideal) y (ix2 i j)) t := by
  unfold maskIn
  rw [ht]
  generalize signIn (F := Ideal) y = s
  generalize hr : Ideal.div (s (ix2 i j)) t = r
  pointwise
  exact hr

theorem eyeIn_at (i j : Fin 512) : eyeIn (F := Ideal) (ix2 i j) = ((if i = j then (1 : ℝ) else 0 : ℝ) : EReal) := by
  pointwise [eyeIn]
  rw [addi_zero, WordCmp.cmpi_eq_ofNat (by omega) (by omega)]
  by_cases h : i = j
  · subst h
    simp [FloatOps.uitofp]
  · have h' : ¬ (i : ℕ) = j := fun e => h (Fin.ext e)
    simp [FloatOps.uitofp, h, h']

theorem labOk_at (y : IVec S2048 32) (i : Fin 2048) : labOk y (ix1 i) = BitVec.ofBool (decide ((y (ix1 i)).toNat < 64)) := by
  rw [← WordCmp.andi_sge_zero_slt_ofNat (by norm_num)]
  generalize hr : IntOp.andi (IntOp.cmpi .sge (y (ix1 i)) 0#32) (IntOp.cmpi .slt (y (ix1 i)) (BitVec.ofNat 32 64)) = r
  pointwise [labOk]
  exact hr

theorem supOk_at (x : FVec Ideal S2048x512 .f32) (i : Fin 2048) (h : supOk x (ix2 i 0) = 1#1) :
    Ideal.ofBits .f32 0x2B8CBCCC#32 ≤ fn_norm x (ix2 i 0) ∧ fn_norm x (ix2 i 0) < ⊤ := by
  unfold supOk at h
  revert h
  generalize fn_norm x = n
  pointwise
  simp only [andi_one, ori_one, ofBool_one, Words.inf]
  exact id

theorem qryOk_at (x : FVec Ideal S4096x512 .f32) (i : Fin 4096) (h : qryOk x (ix2 i 0) = 1#1) :
    (fn_norm_0 x (ix2 i 0) = 0 ∨ Ideal.ofBits .f32 0x2B8CBCCC#32 ≤ fn_norm_0 x (ix2 i 0)) ∧ fn_norm_0 x (ix2 i 0) < ⊤ := by
  unfold qryOk at h
  revert h
  generalize fn_norm_0 x = n
  pointwise
  simp only [andi_one, ori_one, ofBool_one, Words.inf]
  exact id

theorem longer_at (z : FVec Ideal S2048x512 .f32) (i : Fin 2048) (h : longer z (ix2 i 0) = 1#1) :
    Ideal.ofBits .f32 0x2B8CBCCC#32 < fn_norm_1 z (ix2 i 0) := by
  unfold longer at h
  revert h
  generalize fn_norm_1 z = n
  pointwise
  simp only [andi_one, ori_one, ofBool_one, Words.inf]
  exact id

end Cert.Pre_meaningful

end
-- ==== Proof.RefEntry.lean ====
module

public import proofs.«01_k».proof.Proof.PreRead

/-!
What the reference's loop starts from.
-/

@[expose] public section

noncomputable section

namespace Cert.ReferenceIdeal.Train

open Idealize.ShloMosaic Idealize.ShloMosaic.TcCoe
open Cert.ReferenceIdeal Cert.ReferenceIdeal.Value Cert.ReferenceIdeal.Gen
open Idealize.ShloMosaic.StableHlo Idealize.ShloMosaic.Tactic

variable (m : (ℓ : Loc nD τ sig) → Buf (Elt Ideal) ℓ) (c : Dev nD)

/-- The buffers at the loop's entry. -/
abbrev entry : Valuation τ sig (Elt Ideal) := entryContents preI m c

/-- The support rows at launch. -/
abbrev supArg : FVec Ideal S2048x512 .f32 := m ((c.tc : Thread nD τ).loc main_arg0)
/-- The support labels at launch. -/
abbrev labArg : IVec S2048 32 := m ((c.tc : Thread nD τ).loc main_arg1)
/-- The query rows at launch. -/
abbrev qryArg : FVec Ideal S4096x512 .f32 := m ((c.tc : Thread nD τ).loc main_arg2)

theorem entry_0 : entry m c (Proc.devRef .tc main_v30_0) = Pre_meaningful.supIn (F := Ideal) (supArg m c) := by
  simp only [entry, entryContents, afterL_cons, afterL_nil]
  after_reads_simp
  rfl

theorem entry_1 : entry m c (Proc.devRef .tc main_v30_1) = Pre_meaningful.maskIn (F := Ideal) (labArg m c) := by
  simp only [entry, entryContents, afterL_cons, afterL_nil]
  after_reads_simp
  rfl

theorem entry_4 : entry m c (Proc.devRef .tc main_v30_4) = Pre_meaningful.eyeIn (F := Ideal) := by
  simp only [entry, entryContents, afterL_cons, afterL_nil]
  after_reads_simp
  rfl

theorem entry_5 : entry m c (Proc.devRef .tc main_v30_5) = (Pre_meaningful.start (F := Ideal) Pre_meaningful.eyeIn (fun _ => 0)).2.1 := by
  simp only [entry, entryContents, afterL_cons, afterL_nil]
  after_reads_simp
  rfl

theorem entry_6 : entry m c (Proc.devRef .tc main_v30_6) = (Pre_meaningful.start (F := Ideal) Pre_meaningful.eyeIn (fun _ => 0)).2.2.1 := by
  simp only [entry, entryContents, afterL_cons, afterL_nil]
  after_reads_simp
  rfl

theorem entry_7 : entry m c (Proc.devRef .tc main_v30_7) = (Pre_meaningful.start (F := Ideal) Pre_meaningful.eyeIn (fun _ => 0)).2.2.2.1 := by
  simp only [entry, entryContents, afterL_cons, afterL_nil]
  after_reads_simp
  rfl

theorem entry_8 : entry m c (Proc.devRef .tc main_v30_8) = (Pre_meaningful.start (F := Ideal) Pre_meaningful.eyeIn (fun _ => 0)).2.2.2.2 := by
  simp only [entry, entryContents, afterL_cons, afterL_nil]
  after_reads_simp
  rfl

end Cert.ReferenceIdeal.Train

end
-- ==== Proof.Unit.lean ====
module

public import proofs.«01_k».proof.Proof.TrainReal

/-!
Rows scaled to length one, the way each program does it.
-/

@[expose] public section

noncomputable section

namespace Cert

open Idealize.ShloMosaic

/-- The rows over their lengths. A row of zeros stays. -/
def unit {p q : ℕ} (X : Fin p → Fin q → ℝ) (i : Fin p) (k : Fin q) : ℝ := X i k * (√(∑ x, X i x * X i x))⁻¹

/-- A row whose squares sum to zero is a row of zeros. -/
theorem row_zero {p q : ℕ} (X : Fin p → Fin q → ℝ) (i : Fin p) (h : ∑ x, X i x * X i x = 0) (k : Fin q) : X i k = 0 :=
  mul_self_eq_zero.mp ((Finset.sum_eq_zero_iff_of_nonneg fun _ _ => mul_self_nonneg _).mp h k (Finset.mem_univ k))

theorem rows_nonneg {p q : ℕ} (X : Fin p → Fin q → ℝ) (i : Fin p) : 0 ≤ ∑ x, X i x * X i x :=
  Finset.sum_nonneg fun _ _ => mul_self_nonneg _

/-- The kernel's way: times one over the root. -/
theorem rsqrt_unit {p q : ℕ} (X : Fin p → Fin q → ℝ) (i : Fin p) (k : Fin q) :
    ((X i k : ℝ) : EReal) * Ideal.rsqrt ((∑ x, X i x * X i x : ℝ) : EReal) = ((unit X i k : ℝ) : EReal) := by
  rcases (rows_nonneg X i).eq_or_lt with h | h
  · rw [unit, row_zero X i h.symm k, EReal.coe_zero, zero_mul, zero_mul, EReal.coe_zero]
  · rw [coe_rsqrt h, ← EReal.coe_mul, unit]

/-- The reference's way: over the length, but at least the guard. -/
theorem div_unit {p q : ℕ} (X : Fin p → Fin q → ℝ) (i : Fin p) (k : Fin q)
    (h : √(∑ x, X i x * X i x) = 0 ∨ Words.tiny ≤ √(∑ x, X i x * X i x)) :
    Ideal.div ((X i k : ℝ) : EReal) (max ((√(∑ x, X i x * X i x) : ℝ) : EReal) ((Words.tiny : ℝ) : EReal)) = ((unit X i k : ℝ) : EReal) := by
  rcases h with h | h
  · have h0 : ∑ x, X i x * X i x = 0 := (Real.sqrt_eq_zero (rows_nonneg X i)).mp h
    rw [h, max_eq_right (EReal.coe_le_coe_iff.mpr Words.tiny_pos.le), coe_div Words.tiny_pos.ne', unit, row_zero X i h0 k, zero_div, zero_mul]
  · rw [max_eq_left (EReal.coe_le_coe_iff.mpr h), coe_div (Words.tiny_pos.trans_le h).ne', unit, div_eq_mul_inv]

theorem square_nonneg (x : EReal) : 0 ≤ x * x := by
  induction x with
  | bot => simp
  | top => simp
  | coe x => rw [← EReal.coe_mul, ← EReal.coe_zero]; exact EReal.coe_le_coe_iff.mpr (mul_self_nonneg x)

/-- The elements of a row of finite length are real numbers. -/
theorem row_real {q : ℕ} (f : Fin q → EReal) (h : Ideal.sqrt (∑ k, f k * f k) < ⊤) (k : Fin q) : f k = (((f k).toReal : ℝ) : EReal) := by
  have h1 : ∑ k, f k * f k ≠ ⊤ := fun e => by rw [e] at h; exact lt_irrefl _ (show (⊤ : EReal) < ⊤ from h)
  have h2 : f k * f k ≤ ∑ k, f k * f k := Finset.single_le_sum (f := fun k => f k * f k) (fun i _ => square_nonneg (f i)) (Finset.mem_univ k)
  have h3 : f k * f k ≠ ⊤ := fun e => h1 (top_le_iff.mp (e ▸ h2))
  refine (EReal.coe_toReal ?_ ?_).symm
  · intro e; rw [e] at h3; simp at h3
  · intro e; rw [e] at h3; simp at h3

end Cert

end
-- ==== Proof.Pairs.lean ====
module

public import proofs.«01_k».proof.Proof.Loss
public import Mathlib.Tactic.FieldSimp

/-!
The signs of the pairs of rows, and their sum.
-/

@[expose] public section

noncomputable section

namespace Cert.Loss

variable {n : ℕ} {γ : Type*} [Fintype γ] [DecidableEq γ]

/-- The sign of a pair of rows, the later row second: minus where the two are of one class. -/
def sgn (y : Fin n → γ) (i j : Fin n) : ℝ := if i < j then (if y j = y i then -1 else 1) else 0

/-- The sum of the signs. -/
def total (y : Fin n → γ) : ℝ := ∑ i, ∑ j, sgn y i j

omit [Fintype γ] in
theorem sgn_both (y : Fin n → γ) (i j : Fin n) : sgn y i j + sgn y j i = if i = j then 0 else 1 - 2 * oh y j (y i) := by
  unfold sgn oh
  rcases lt_trichotomy i j with h | h | h
  · rw [if_pos h, if_neg h.not_gt, if_neg h.ne]
    split_ifs <;> norm_num
  · subst h; simp
  · rw [if_pos h, if_neg h.not_gt, if_neg h.ne']
    by_cases e : y i = y j
    · rw [if_pos e, if_pos e.symm]; norm_num
    · rw [if_neg e, if_neg fun x => e x.symm]; norm_num

omit [Fintype γ] in
/-- The pair weights are the signs over their sum. -/
theorem weights (y : Fin n → γ) (i j : Fin n) :
    sgn y i j / total y + sgn y j i / total y = if i = j then 0 else 1 / total y * (1 - 2 * oh y j (y i)) := by
  rw [← add_div, sgn_both]
  split_ifs
  · rw [zero_div]
  · ring

/-- Twice the sum of the signs, from the number of rows of each class. -/
theorem two_total (y : Fin n → γ) : 2 * total y = (n : ℝ) * n - 2 * ∑ c, (∑ i, oh y i c) * (∑ i, oh y i c) + n := by
  have h1 : 2 * total y = ∑ i, ∑ j, (if i = j then 0 else 1 - 2 * oh y j (y i)) := by
    have : total y = ∑ i, ∑ j, sgn y j i := by rw [total, Finset.sum_comm]
    rw [two_mul]
    nth_rewrite 2 [this]
    rw [total, ← Finset.sum_add_distrib]
    refine Finset.sum_congr rfl fun i _ => ?_
    rw [← Finset.sum_add_distrib]
    exact Finset.sum_congr rfl fun j _ => sgn_both y i j
  have h2 : ∀ i, ∑ j, (if i = j then 0 else 1 - 2 * oh y j (y i)) = (n : ℝ) - 2 * (∑ j, oh y j (y i)) + 1 := by
    intro i
    have h3 : ∀ j, (if i = j then 0 else 1 - 2 * oh y j (y i)) = (1 - 2 * oh y j (y i)) + (if i = j then 1 else 0) := by
      intro j
      by_cases h : i = j
      · subst h; simp [oh]; norm_num
      · simp [h]
    simp only [h3, Finset.sum_add_distrib, Finset.sum_sub_distrib, ← Finset.mul_sum, Finset.sum_ite_eq, Finset.mem_univ, if_true,
      Finset.sum_const, Finset.card_univ, Fintype.card_fin, nsmul_eq_mul, mul_one]
  have h4 : ∑ i, ∑ j, oh y j (y i) = ∑ c, (∑ i, oh y i c) * (∑ i, oh y i c) := by
    have := sum_class y (fun c => ∑ j, oh y j c) (fun _ => 1)
    simp only [mul_one] at this
    exact this.symm
  rw [h1]
  simp only [h2, Finset.sum_add_distrib, Finset.sum_sub_distrib, ← Finset.mul_sum, h4, Finset.sum_const, Finset.card_univ, Fintype.card_fin,
    nsmul_eq_mul, mul_one]

/-- The kernel's weight of a pair is the reference's. -/
theorem inv_eq (y : Fin n → γ) :
    2 / ((n : ℝ) * n - 2 * ∑ c, (∑ i, oh y i c) * (∑ i, oh y i c) + n) = 1 / total y := by
  rw [← two_total, div_mul_eq_div_div, div_self two_ne_zero]

end Cert.Loss

end
-- ==== Proof.PreReal.lean ====
module

public import proofs.«01_k».proof.Proof.RefEntry
public import proofs.«01_k».proof.Proof.Unit
public import proofs.«01_k».proof.Proof.Pairs

/-!
What the condition says of the inputs, on the reals.
-/

@[expose] public section

noncomputable section

namespace Cert.Pre_meaningful

open Idealize.ShloMosaic

/-- The inputs are real: the rows long enough, the labels classes, and the signs of the pairs not adding up to zero. -/
structure Good (x : FVec Ideal S2048x512 .f32) (y : IVec S2048 32) (q : FVec Ideal S4096x512 .f32)
    (X : Fin 2048 → Fin 512 → ℝ) (l : Fin 2048 → Fin 64) (Q : Fin 4096 → Fin 512 → ℝ) : Prop where
  x : x = up2 X
  y : ∀ i, y (ix1 i) = BitVec.ofNat 32 (l i)
  q : q = up2 Q
  long : ∀ i, Words.tiny ≤ √(∑ k, X i k * X i k)
  query : ∀ i, √(∑ k, Q i k * Q i k) = 0 ∨ Words.tiny ≤ √(∑ k, Q i k * Q i k)
  total : Loss.total l ≠ 0

theorem sign_up {y : IVec S2048 32} {l : Fin 2048 → Fin 64} (h : ∀ i, y (ix1 i) = BitVec.ofNat 32 (l i)) (i j : Fin 2048) :
    signIn (F := Ideal) y (ix2 i j) = ((Loss.sgn l i j : ℝ) : EReal) := by
  rw [signIn_at, h, h]
  have : BitVec.ofNat 32 (l j) = BitVec.ofNat 32 (l i) ↔ l j = l i := by
    constructor
    · intro e
      have e' := congrArg BitVec.toNat e
      simp only [BitVec.toNat_ofNat] at e'
      rw [Nat.mod_eq_of_lt (by omega), Nat.mod_eq_of_lt (by omega)] at e'
      exact Fin.ext e'
    · intro e; rw [e]
  unfold Loss.sgn
  simp only [this]
  split_ifs <;> rfl

theorem total_up {y : IVec S2048 32} {l : Fin 2048 → Fin 64} (h : ∀ i, y (ix1 i) = BitVec.ofNat 32 (l i)) :
    totalIn (F := Ideal) y = fun _ => ((Loss.total l : ℝ) : EReal) := by
  funext i
  rw [totalIn_at]
  simp only [sign_up h, coe_sum, Loss.total]

theorem mask_up {y : IVec S2048 32} {l : Fin 2048 → Fin 64} (h : ∀ i, y (ix1 i) = BitVec.ofNat 32 (l i)) (ht : Loss.total l ≠ 0) :
    maskIn (F := Ideal) y = up2 (fun i j => Loss.sgn l i j / Loss.total l) := by
  refine eq_up2 fun i j => ?_
  rw [maskIn_at y i j _ (total_up h), sign_up h, coe_div ht]

theorem sup_up {X : Fin 2048 → Fin 512 → ℝ} (h : ∀ i, Words.tiny ≤ √(∑ k, X i k * X i k)) : supIn (F := Ideal) (up2 X) = up2 (unit X) := by
  refine eq_up2 fun i j => ?_
  rw [supIn_at, Words.tiny_eq]
  simp only [up2_ix2, ← EReal.coe_mul, coe_sum]
  rw [coe_sqrt (rows_nonneg X i)]
  exact div_unit X i j (Or.inr (h i))

/-- An array whose rows are of finite length is real. -/
theorem rows_real {p : ℕ} (x : FVec Ideal ⟨2, ![p, 512]⟩ .f32) (h : ∀ i, Ideal.sqrt (∑ k : Fin 512, x (ix2 i k) * x (ix2 i k)) < ⊤) :
    x = up2 (fun i k => (x (ix2 i k)).toReal) := eq_up2 fun i k => row_real (fun k => x (ix2 i k)) (h i) k

/-- The length of a real row. -/
theorem len_real {p : ℕ} (x : FVec Ideal ⟨2, ![p, 512]⟩ .f32) (X : Fin p → Fin 512 → ℝ) (hx : x = up2 X) (i : Fin p) :
    Ideal.sqrt (∑ k : Fin 512, x (ix2 i k) * x (ix2 i k)) = ((√(∑ k, X i k * X i k) : ℝ) : EReal) := by
  rw [hx]
  simp only [up2_ix2, ← EReal.coe_mul, coe_sum]
  exact coe_sqrt (rows_nonneg X i)

/-- The checks on the inputs make them real. -/
theorem good (x : FVec Ideal S2048x512 .f32) (y : IVec S2048 32) (q : FVec Ideal S4096x512 .f32) (j : S_.Idx)
    (h : first (F := Ideal) x y q j = 1#1) : ∃ X l Q, Good x y q X l Q := by
  have hS : Subsingleton S_.Idx := ⟨fun a b => funext fun k => k.elim0⟩
  have h1 : IntOp.andi (IntOp.andi (IntOp.andi (Host.reduce IntOp.andi (labOk y) (constantI S_ 1 1#1) Facts.reducesTo_S2048_S_d0 Facts.h_S_ j)
    (Host.reduce IntOp.andi (supOk (F := Ideal) x) (constantI S_ 1 1#1) Facts.reducesTo_S2048x1_S_d0_1 Facts.h_S_ j))
    (Host.reduce IntOp.andi (qryOk (F := Ideal) q) (constantI S_ 1 1#1) Facts.reducesTo_S4096x1_S_d0_1 Facts.h_S_ j))
    (BitVec.ofBool (decide (totalIn (F := Ideal) y j ≠ Ideal.ofBits .f32 0x00000000#32))) = 1#1 := h
  rw [andi_one, andi_one, andi_one, ofBool_one] at h1
  obtain ⟨⟨⟨ha, hb⟩, hc⟩, hd⟩ := h1
  have hl : ∀ i, (y (ix1 i)).toNat < 64 := fun i => by
    have := Host.reduce_andi_all _ _ _ _ j ha (ix1 i)
    rwa [labOk_at, ofBool_one] at this
  have hx : ∀ i : Fin 2048, _ := fun i => supOk_at x i (Host.reduce_andi_all _ _ _ _ j hb (ix2 i 0))
  have hq : ∀ i : Fin 4096, _ := fun i => qryOk_at q i (Host.reduce_andi_all _ _ _ _ j hc (ix2 i 0))
  simp only [norm_at, norm_0_at] at hx hq
  have hX := rows_real x fun i => (hx i).2
  have hQ := rows_real q fun i => (hq i).2
  have hy : ∀ i, y (ix1 i) = BitVec.ofNat 32 ((⟨(y (ix1 i)).toNat, hl i⟩ : Fin 64) : ℕ) := fun i => by simp
  refine ⟨_, fun i => ⟨(y (ix1 i)).toNat, hl i⟩, _, hX, hy, hQ, fun i => ?_, fun i => ?_, ?_⟩
  · have := (hx i).1
    rw [len_real x _ hX, Words.tiny_eq] at this
    exact EReal.coe_le_coe_iff.mp this
  · have := (hq i).1
    rw [len_real q _ hQ, Words.tiny_eq] at this
    refine this.imp (fun e => ?_) EReal.coe_le_coe_iff.mp
    exact EReal.coe_eq_zero.mp e
  · intro e
    rw [total_up hy, e, Words.zero] at hd
    exact hd rfl

end Cert.Pre_meaningful

namespace Cert.ReferenceIdeal.Train

open Idealize.ShloMosaic Idealize.ShloMosaic.TcCoe
open Cert.ReferenceIdeal Cert.ReferenceIdeal.Value

/-- The part of the buffers that the condition follows. -/
def slots (V : Valuation τ sig (Elt Ideal)) : Pre_meaningful.State Ideal :=
  (V (Proc.devRef .tc main_v30_4), V (Proc.devRef .tc main_v30_5), V (Proc.devRef .tc main_v30_6), V (Proc.devRef .tc main_v30_7),
    V (Proc.devRef .tc main_v30_8))

theorem slots_step (V : Valuation τ sig (Elt Ideal)) : slots (STEP V)
    = Pre_meaningful.adam (F := Ideal) (V (Proc.devRef .tc main_v30_0)) (V (Proc.devRef .tc main_v30_1)) (slots V) := by
  unfold slots
  rw [Pre_meaningful.adam_eq, STEP_main_v30_4, STEP_main_v30_5, STEP_main_v30_6, STEP_main_v30_7, STEP_main_v30_8]

theorem iter_keeps (V : Valuation τ sig (Elt Ideal)) : ∀ k, (STEP^[k] V) (Proc.devRef .tc main_v30_0) = V (Proc.devRef .tc main_v30_0)
    ∧ (STEP^[k] V) (Proc.devRef .tc main_v30_1) = V (Proc.devRef .tc main_v30_1)
  | 0 => ⟨rfl, rfl⟩
  | k + 1 => by
    rw [Function.iterate_succ_apply', STEP_main_v30_0, STEP_main_v30_1]
    exact iter_keeps V k

/-- The condition follows the loop. -/
theorem before_iter (V : Valuation τ sig (Elt Ideal)) : ∀ k,
    Pre_meaningful.before (F := Ideal) (V (Proc.devRef .tc main_v30_0)) (V (Proc.devRef .tc main_v30_1)) (slots V) k = slots (STEP^[k] V)
  | 0 => rfl
  | k + 1 => by
    rw [Function.iterate_succ_apply', slots_step, (iter_keeps V k).1, (iter_keeps V k).2, ← before_iter V k]
    rfl

/-- A check says that the transformed rows are longer than the guard. -/
theorem check_up {V : Valuation τ sig (Elt Ideal)} {S : Fin 2048 → Fin 512 → ℝ} {M : Fin 2048 → Fin 2048 → ℝ} {i : ℕ} {s : StR}
    (h : Carries V S M i s) (j : Pre_meaningful.S_.Idx)
    (hc : Pre_meaningful.check (F := Ideal) (V (Proc.devRef .tc main_v30_0)) (V (Proc.devRef .tc main_v30_4)) j = 1#1) (a : Fin 2048) :
    Words.tiny < √(Loss.sq S s.w a) := by
  have hS : Subsingleton Pre_meaningful.S_.Idx := ⟨fun a b => funext fun k => k.elim0⟩
  have h1 := Pre_meaningful.longer_at _ a (Host.reduce_andi_all _ _ _ _ j hc (ix2 a 0))
  rw [Pre_meaningful.len_eq, len_up h, up2_ix2, Words.tiny_eq] at h1
  exact EReal.coe_lt_coe_iff.mp h1

/-- If every check says so, the loop carries the training over the reals. -/
theorem checks_up {V : Valuation τ sig (Elt Ideal)} {S : Fin 2048 → Fin 512 → ℝ} {M : Fin 2048 → Fin 2048 → ℝ}
    (y : Fin 2048 → Fin 64) (inv : ℝ) (hM : ∀ i j, M i j + M j i = if i = j then 0 else inv * (1 - 2 * Loss.oh y j (y i)))
    (h : Carries V S M 0 startR) (j : Pre_meaningful.S_.Idx) (n : ℕ)
    (hc : ∀ k, k < n → Pre_meaningful.check (F := Ideal) (V (Proc.devRef .tc main_v30_0))
      (Pre_meaningful.before (F := Ideal) (V (Proc.devRef .tc main_v30_0)) (V (Proc.devRef .tc main_v30_1)) (slots V) k).1 j = 1#1) :
    ∀ i, i ≤ n → ∀ k, k < i → ∀ a, Words.tiny < √(Loss.sq S (stR y inv S k).w a)
  | 0, _, _, hk, _ => absurd hk (Nat.not_lt_zero _)
  | i + 1, hi, k, hk, a => by
    have ih := checks_up y inv hM h j n hc i (by omega)
    rcases Nat.lt_succ_iff_lt_or_eq.mp hk with hk | rfl
    · exact ih k hk a
    · have h1 := steps_carry y inv hM h k ih
      have h2 := hc k (by omega)
      rw [before_iter, ← (iter_keeps V k).1] at h2
      exact check_up h1 j h2 a

variable (m : (ℓ : Loc nD τ sig) → Buf (Elt Ideal) ℓ) (c : Dev nD)

theorem start_w (t : ℝ) (eye : FVec Ideal S512x512 .f32) : (Pre_meaningful.start (F := Ideal) eye (fun _ => ((t : ℝ) : EReal))).1 = eye := by
  funext k
  obtain ⟨a, b, rfl⟩ : ∃ (a b : Fin 512), k = ix2 a b := ⟨k 0, k 1, eq_ix2 k⟩
  generalize hr : eye (ix2 a b) = r
  pointwise [Pre_meaningful.start]
  rw [hr]
  simp

variable {X : Fin 2048 → Fin 512 → ℝ} {l : Fin 2048 → Fin 64} {Q : Fin 4096 → Fin 512 → ℝ}

/-- What the loop starts from, over the reals. -/
theorem entry_carries (h : Pre_meaningful.Good (supArg m c) (labArg m c) (qryArg m c) X l Q) :
    Carries (entry m c) (unit X) (fun i j => Loss.sgn l i j / Loss.total l) 0 startR := by
  refine ⟨?_, ?_, ?_, ?_, ?_, ?_, ?_⟩
  · rw [entry_0, h.x, Pre_meaningful.sup_up h.long]
  · rw [entry_1, Pre_meaningful.mask_up h.y h.total]
  · rw [entry_4]; exact eq_up2 fun a b => Pre_meaningful.eyeIn_at a b
  · rw [entry_5]
    refine eq_up2 fun a b => ?_
    pointwise [Pre_meaningful.start, startR]
    simp
  · rw [entry_6]
    refine eq_up2 fun a b => ?_
    pointwise [Pre_meaningful.start, startR]
    simp
  · rw [entry_7]
    funext k
    rw [pow_zero, EReal.coe_one]
    exact Words.one.trans EReal.coe_one
  · rw [entry_8]
    funext k
    rw [pow_zero, EReal.coe_one]
    exact Words.one.trans EReal.coe_one

/-- The condition makes the inputs real and the loop the training over the reals, no row of it shorter than the guard. -/
theorem meaningful (u : IVec S4096 32) (h : Pre_meaningful.fn (F := Ideal) (supArg m c) (labArg m c) (qryArg m c) u = fun _ => 1#1) :
    ∃ X l Q, Pre_meaningful.Good (supArg m c) (labArg m c) (qryArg m c) X l Q
      ∧ (∀ k, k < 10 → ∀ a, Words.tiny < √(Loss.sq (unit X) (stR l (1 / Loss.total l) (unit X) k).w a))
      ∧ Carries (STEP^[10] (entry m c)) (unit X) (fun i j => Loss.sgn l i j / Loss.total l) 10 (stR l (1 / Loss.total l) (unit X) 10) := by
  let j : Pre_meaningful.S_.Idx := fun k => k.elim0
  have h1 := congrFun h j
  rw [Pre_meaningful.fn_eq] at h1
  obtain ⟨h2, h3⟩ := Pre_meaningful.of_tail _ _ j 10 _ _ h1
  obtain ⟨X, l, Q, hg⟩ := Pre_meaningful.good _ _ _ j h2
  have hs : slots (entry m c) = Pre_meaningful.start (F := Ideal) Pre_meaningful.eyeIn (Pre_meaningful.totalIn (labArg m c)) := by
    unfold slots
    rw [entry_4, entry_5, entry_6, entry_7, entry_8, Pre_meaningful.total_up hg.y]
    exact congrArg (fun w => ((w, _) : Pre_meaningful.State Ideal)) (start_w _ _).symm
  have hc := entry_carries m c hg
  have hn := checks_up l (1 / Loss.total l) (Loss.weights l) hc j 10 (by
    intro k hk
    rw [hs, entry_0, entry_1]
    exact h3 k hk) 10 le_rfl
  exact ⟨X, l, Q, hg, hn, steps_carry l _ (Loss.weights l) hc 10 hn⟩

end Cert.ReferenceIdeal.Train

end
-- ==== Proof.Nearest.lean ====
module

public import Mathlib.Tactic.Ring
public import Mathlib.Tactic.Linarith
public import Mathlib.Tactic.NormNum
public import Mathlib.Data.EReal.Operations
public import Mathlib.Algebra.BigOperators.Fin
public import Mathlib.Data.Finset.Fold
public import Mathlib.Algebra.Order.BigOperators.Group.Finset

/-!
The three least numbers of a family, told by counting.

Three numbers `x₁ ≤ x₂ ≤ x₃` are the three least of a family when, for every bound, as many of them are below it as members of
the family are, a count above three counting as three.
-/

@[expose] public section

noncomputable section

namespace Cert.Nearest

open Classical

/-- One if the statement holds, and zero otherwise. -/
def on (p : Prop) : ℕ := if p then 1 else 0

theorem on_true {p : Prop} (h : p) : on p = 1 := if_pos h
theorem on_false {p : Prop} (h : ¬ p) : on p = 0 := if_neg h

/-- How many of a family are at most the bound. -/
def count {ι : Type*} [Fintype ι] (e : ι → EReal) (v : EReal) : ℕ := ∑ i, on (e i ≤ v)

/-! ### Inserting one number after another into three places -/

/-- The three places after the numbers `x 0, …, x (k - 1)`. -/
def tri (x : ℕ → EReal) : ℕ → EReal × EReal × EReal
  | 0 => (⊤, ⊤, ⊤)
  | k + 1 =>
    (min (tri x k).1 (x k), min (tri x k).2.1 (max (tri x k).1 (x k)), min (tri x k).2.2 (max (tri x k).2.1 (max (tri x k).1 (x k))))

theorem tri_le (x : ℕ → EReal) : ∀ k, (tri x k).1 ≤ (tri x k).2.1 ∧ (tri x k).2.1 ≤ (tri x k).2.2
  | 0 => ⟨le_refl _, le_refl _⟩
  | k + 1 => by
    obtain ⟨h1, h2⟩ := tri_le x k
    refine ⟨le_min ((min_le_left _ _).trans h1) (min_le_max), ?_⟩
    exact le_min ((min_le_left _ _).trans h2) (min_le_max)

/-- Of the three places, as many are at most a bound as of the numbers so far. -/
theorem tri_count (x : ℕ → EReal) (v : EReal) (hv : v ≠ ⊤) : ∀ k,
    on ((tri x k).1 ≤ v) + on ((tri x k).2.1 ≤ v) + on ((tri x k).2.2 ≤ v) = min 3 (∑ j ∈ Finset.range k, on (x j ≤ v))
  | 0 => by simp [tri, on, hv]
  | k + 1 => by
    have ih := tri_count x v hv k
    obtain ⟨h1, h2⟩ := tri_le x k
    rw [Finset.sum_range_succ]
    simp only [tri, min_le_iff, max_le_iff]
    generalize ∑ j ∈ Finset.range k, on (x j ≤ v) = n at *
    generalize (tri x k).1 = a at *
    generalize (tri x k).2.1 = b at *
    generalize (tri x k).2.2 = c at *
    generalize x k = y at *
    by_cases hy : y ≤ v <;> by_cases hc : c ≤ v
    · have hb := h2.trans hc; have ha := h1.trans hb
      simp [on, hy, hc, hb, ha] at ih ⊢; omega
    · by_cases hb : b ≤ v
      · have ha := h1.trans hb
        simp [on, hy, hc, hb, ha] at ih ⊢; omega
      · by_cases ha : a ≤ v <;> simp [on, hy, hc, hb, ha] at ih ⊢ <;> omega
    · have hb := h2.trans hc; have ha := h1.trans hb
      simp [on, hy, hc, hb, ha] at ih ⊢; omega
    · by_cases hb : b ≤ v
      · have ha := h1.trans hb
        simp [on, hy, hc, hb, ha] at ih ⊢; omega
      · by_cases ha : a ≤ v <;> simp [on, hy, hc, hb, ha] at ih ⊢ <;> omega

theorem min3_sum {ι : Type*} (s : Finset ι) (f : ι → ℕ) : min 3 (∑ i ∈ s, min 3 (f i)) = min 3 (∑ i ∈ s, f i) := by
  induction s using Finset.induction_on with
  | empty => simp
  | insert a s ha ih => rw [Finset.sum_insert ha, Finset.sum_insert ha]; omega

/-- The three places of every lane, taken together, count as the whole family does. -/
theorem lanes_count {L : ℕ} (k : ℕ) (x : Fin L → ℕ → EReal) (v : EReal) (hv : v ≠ ⊤) :
    min 3 (∑ l, (on ((tri (x l) k).1 ≤ v) + on ((tri (x l) k).2.1 ≤ v) + on ((tri (x l) k).2.2 ≤ v)))
      = min 3 (∑ l, ∑ j ∈ Finset.range k, on (x l j ≤ v)) := by
  rw [← min3_sum Finset.univ fun l => ∑ j ∈ Finset.range k, on (x l j ≤ v)]
  simp only [tri_count _ v hv]

/-! ### The least, the next and the one after -/

/-- The three numbers are the three least of the family. -/
structure Least {ι : Type*} [Fintype ι] (e : ι → EReal) (x₁ x₂ x₃ : ℝ) : Prop where
  le12 : x₁ ≤ x₂
  le23 : x₂ ≤ x₃
  count : ∀ v : ℝ, on (x₁ ≤ v) + on (x₂ ≤ v) + on (x₃ ≤ v) = min 3 (count e v)

/-- The least of a family. -/
def least {ι : Type*} [Fintype ι] (e : ι → EReal) : EReal := Finset.fold min ⊤ e Finset.univ

/-- The family, the members up to a bound taken out. -/
def above {ι : Type*} (e : ι → EReal) (m : EReal) (i : ι) : EReal := if m < e i then e i else ⊤

section
variable {ι : Type*} [Fintype ι] (e : ι → EReal)

theorem least_le (i : ι) : least e ≤ e i := by
  unfold least
  exact (Finset.fold_min_le _).mpr (Or.inr ⟨i, Finset.mem_univ _, le_refl _⟩)

theorem least_mem (h : least e < ⊤) : ∃ i, e i = least e := by
  have h1 : least e ≤ least e := le_refl _
  unfold least at h1 h ⊢
  rcases (Finset.fold_min_le _).mp h1 with h2 | ⟨i, _, hi⟩
  · exact absurd h (not_lt.mpr h2)
  · exact ⟨i, le_antisymm hi ((Finset.fold_min_le _).mpr (Or.inr ⟨i, Finset.mem_univ _, le_refl _⟩))⟩

theorem count_mono {v w : EReal} (h : v ≤ w) : count e v ≤ count e w := by
  unfold count
  refine Finset.sum_le_sum fun i _ => ?_
  unfold on
  split_ifs with h1 h2
  · exact le_refl _
  · exact absurd (h1.trans h) h2
  · exact Nat.zero_le _
  · exact le_refl _

theorem count_lt {v w : EReal} (h : v ≤ w) (i : ι) (hi : ¬ e i ≤ v) (hi' : e i ≤ w) : count e v < count e w := by
  unfold count
  refine Finset.sum_lt_sum (fun j _ => ?_) ⟨i, Finset.mem_univ _, ?_⟩
  · unfold on
    split_ifs with h1 h2
    · exact le_refl _
    · exact absurd (h1.trans h) h2
    · exact Nat.zero_le _
    · exact le_refl _
  · rw [on_false hi, on_true hi']; exact Nat.one_pos

theorem exists_of_count {v w : EReal} (h : count e v < count e w) : ∃ i, v < e i ∧ e i ≤ w := by
  by_contra hn
  push Not at hn
  refine absurd h (not_lt.mpr ?_)
  unfold count
  refine Finset.sum_le_sum fun i _ => ?_
  unfold on
  split_ifs with h1 h2
  · exact le_refl _
  · exact absurd h1 (not_le.mpr (hn i (not_le.mp h2)))
  · exact Nat.zero_le _
  · exact le_refl _

variable {e} {x₁ x₂ x₃ : ℝ} (h : Least e x₁ x₂ x₃)
include h

theorem not_bot (i : ι) : e i ≠ ⊥ := by
  intro hb
  have h1 := h.count (x₁ - 1)
  have h2 : count e ((x₁ - 1 : ℝ) : EReal) ≠ 0 := by
    unfold count
    intro h0
    have := Finset.sum_eq_zero_iff.mp h0 i (Finset.mem_univ _)
    rw [on_true (by rw [hb]; exact bot_le)] at this
    exact absurd this one_ne_zero
  have h3 := h.le12
  have h4 := h.le23
  rw [on_false (by linarith), on_false (by linarith), on_false (by linarith)] at h1
  omega

/-- The least member above a bound is the next of the three. -/
theorem next_eq {m : EReal} {x : ℝ} (hmx : m < (x : EReal)) (hc : count e m < count e (x : EReal))
    (hlow : ∀ v : ℝ, v < x → count e (v : EReal) ≤ count e m) : least (above e m) = (x : EReal) := by
  obtain ⟨i, hi1, hi2⟩ := exists_of_count e hc
  have hle : least (above e m) ≤ (x : EReal) := by
    refine (least_le _ i).trans ?_
    rw [above, if_pos hi1]; exact hi2
  refine le_antisymm hle (not_lt.mp fun hlt => ?_)
  obtain ⟨j, hj⟩ := least_mem (above e m) (hle.trans_lt (EReal.coe_lt_top x))
  have hmj : m < e j := by
    by_contra hn
    rw [above, if_neg hn] at hj
    rw [← hj] at hlt
    exact absurd hlt (not_lt.mpr le_top)
  rw [above, if_pos hmj] at hj
  rw [← hj] at hlt
  have hr : e j = ((e j).toReal : EReal) := (EReal.coe_toReal (ne_top_of_lt hlt) (not_bot h j)).symm
  have h1 := hlow (e j).toReal (by rw [hr] at hlt; exact EReal.coe_lt_coe_iff.mp hlt)
  rw [← hr] at h1
  exact absurd (count_lt e hmj.le j (not_le.mpr hmj) (le_refl _)) (not_lt.mpr h1)

theorem least_eq : least e = (x₁ : EReal) := by
  have h1 := h.count x₁
  rw [on_true (le_refl _)] at h1
  have hb : count e ⊥ = 0 := by
    unfold count
    refine Finset.sum_eq_zero fun i _ => on_false ?_
    rw [le_bot_iff]; exact not_bot h i
  have h2 := next_eq h (m := ⊥) (x := x₁) (EReal.bot_lt_coe _) (by omega) (fun v hv => by
    have h3 := h.count v
    have := h.le12
    have := h.le23
    rw [on_false (by linarith), on_false (by linarith), on_false (by linarith)] at h3
    omega)
  rw [← h2]
  congr 1
  funext i
  rw [above, if_pos (bot_lt_iff_ne_bot.mpr (not_bot h i))]

end

/-- How many members of `above e m` are at most a bound below `⊤`: those of the family up to it, less those up to `m`. -/
theorem count_above {ι : Type*} [Fintype ι] (e : ι → EReal) {m w : EReal} (hm : m ≤ w) (hw : w < ⊤) :
    count (above e m) w + count e m = count e w := by
  unfold count
  rw [← Finset.sum_add_distrib]
  refine Finset.sum_congr rfl fun i _ => ?_
  by_cases hi : m < e i
  · rw [above, if_pos hi, on_false (not_le.mpr hi), add_zero]
  · rw [above, if_neg hi, on_false (not_le.mpr hw), on_true (not_lt.mp hi), on_true ((not_lt.mp hi).trans hm)]

theorem above_above {ι : Type*} (e : ι → EReal) {m w : EReal} (hm : m ≤ w) : above (above e m) w = above e w := by
  funext i
  unfold above
  by_cases h1 : m < e i
  · simp only [if_pos h1]
  · have h2 : ¬ w < e i := fun h => h1 (hm.trans_lt h)
    rw [if_neg h1, if_neg h2]
    split_ifs <;> rfl

/-- A number of times the value of the least, and so on for the next two, is the sum of the values of the three least. -/
theorem weighted {ι : Type*} [Fintype ι] {e : ι → EReal} {x₁ x₂ x₃ : ℝ} (h : Least e x₁ x₂ x₃) (g : EReal → ℝ)
    (m₁ m₂ m₃ : EReal) (h1 : m₁ = least e) (h2 : m₂ = least (above e m₁)) (h3 : m₃ = least (above (above e m₁) m₂))
    (k₁ k₂ : ℕ) (hk1 : k₁ = min (count e m₁) 3) (hk2 : k₂ = min (count (above e m₁) m₂) (3 - k₁)) :
    k₁ + k₂ ≤ 3 ∧ (k₁ : ℝ) * g m₁ + (k₂ : ℝ) * g m₂ + ((3 : ℝ) - (k₁ : ℝ) - (k₂ : ℝ)) * g m₃
      = g (x₁ : EReal) + g (x₂ : EReal) + g (x₃ : EReal) := by
  have e1 := least_eq h
  rw [← h1] at e1
  subst e1
  have l12 := h.le12
  have l23 := h.le23
  have c1 := h.count x₁
  rw [on_true (le_refl _)] at c1
  refine ⟨by omega, ?_⟩
  by_cases e13 : x₃ ≤ x₁
  · have a2 : x₂ = x₁ := by linarith
    have a3 : x₃ = x₁ := by linarith
    subst a2
    rw [on_true (le_refl _), on_true e13] at c1
    have : k₁ = 3 := by omega
    have : k₂ = 0 := by omega
    subst k₁ k₂
    rw [a3, this]; norm_num; ring
  rw [on_false e13] at c1
  have s13 : x₁ < x₃ := not_le.mp e13
  have c3 := h.count x₃
  rw [on_true (le_refl _), on_true l23, on_true s13.le] at c3
  by_cases e12 : x₂ ≤ x₁
  · have a2 : x₂ = x₁ := by linarith
    rw [on_true e12] at c1
    have hn := next_eq h (m := (x₁ : EReal)) (x := x₃) (EReal.coe_lt_coe_iff.mpr s13) (by omega) (fun v hv => by
      have h3 := h.count v
      rw [on_false (not_le.mpr hv)] at h3
      have : on (x₁ ≤ v) ≤ 1 := by unfold on; split_ifs <;> omega
      have : on (x₂ ≤ v) ≤ 1 := by unfold on; split_ifs <;> omega
      omega)
    rw [← h2] at hn
    subst hn
    have ca := count_above e (EReal.coe_le_coe_iff.mpr s13.le) (EReal.coe_lt_top x₃)
    have q1 : k₁ = 2 := by omega
    have q2 : k₂ = 1 := by omega
    rw [a2, q1, q2]; norm_num; ring
  · rw [on_false e12] at c1
    have s12 : x₁ < x₂ := not_le.mp e12
    have c2 := h.count x₂
    rw [on_true (le_refl _), on_true s12.le] at c2
    have hn := next_eq h (m := (x₁ : EReal)) (x := x₂) (EReal.coe_lt_coe_iff.mpr s12) (by omega) (fun v hv => by
      have h3 := h.count v
      rw [on_false (not_le.mpr hv), on_false (show ¬ x₃ ≤ v by linarith)] at h3
      have : on (x₁ ≤ v) ≤ 1 := by unfold on; split_ifs <;> omega
      omega)
    rw [← h2] at hn
    subst hn
    have ca := count_above e (EReal.coe_le_coe_iff.mpr s12.le) (EReal.coe_lt_top x₂)
    have q1 : k₁ = 1 := by omega
    by_cases e23 : x₃ ≤ x₂
    · have a3 : x₃ = x₂ := by linarith
      rw [on_true e23] at c2
      have q2 : k₂ = 2 := by omega
      rw [a3, q1, q2]; norm_num; ring
    · have s23 : x₂ < x₃ := not_le.mp e23
      rw [on_false e23] at c2
      have q2 : k₂ = 1 := by omega
      have hn3 := next_eq h (m := (x₂ : EReal)) (x := x₃) (EReal.coe_lt_coe_iff.mpr s23) (by omega) (fun v hv => by
        have h3 := h.count v
        rw [on_false (not_le.mpr hv)] at h3
        have : on (x₁ ≤ v) ≤ 1 := by unfold on; split_ifs <;> omega
        have : on (x₂ ≤ v) ≤ 1 := by unfold on; split_ifs <;> omega
        omega)
      rw [above_above e (EReal.coe_le_coe_iff.mpr s12.le), hn3] at h3
      subst h3
      rw [q1, q2]; norm_num

/-! ### The three least exist, and are the first three of a sorted family -/

/-- A family of at least three real numbers has three least numbers. -/
theorem exists_least {n : ℕ} (hn : 3 ≤ n) (e : Fin n → ℝ) : ∃ x₁ x₂ x₃ : ℝ, Least (fun i => ((e i : ℝ) : EReal)) x₁ x₂ x₃ := by
  set x : ℕ → EReal := fun j => if h : j < n then ((e ⟨j, h⟩ : ℝ) : EReal) else 0 with hx
  have hsum : ∀ v, ∑ j ∈ Finset.range n, on (x j ≤ v) = count (fun i => ((e i : ℝ) : EReal)) v := by
    intro v
    rw [Finset.sum_range]
    unfold count
    refine Finset.sum_congr rfl fun i _ => ?_
    simp [hx]
  obtain ⟨l1, l2⟩ := tri_le x n
  have htop : (tri x n).2.2 ≠ ⊤ := by
    intro ht
    have hne : (Finset.univ : Finset (Fin n)).Nonempty := ⟨⟨0, by omega⟩, Finset.mem_univ _⟩
    have h1 := tri_count x (((Finset.univ.sup' hne e : ℝ)) : EReal) (EReal.coe_ne_top _) n
    rw [hsum] at h1
    have h2 : count (fun i => ((e i : ℝ) : EReal)) ((Finset.univ.sup' hne e : ℝ) : EReal) = n := by
      unfold count
      rw [Finset.sum_congr rfl fun i _ => on_true (EReal.coe_le_coe_iff.mpr (Finset.le_sup' e (Finset.mem_univ i)))]
      simp
    rw [h2, ht, on_false (not_le.mpr (EReal.coe_lt_top _))] at h1
    have : ∀ p, on p ≤ 1 := fun p => by unfold on; split_ifs <;> omega
    have := this ((tri x n).1 ≤ ((Finset.univ.sup' hne e : ℝ) : EReal))
    have := ‹∀ p, on p ≤ 1› ((tri x n).2.1 ≤ ((Finset.univ.sup' hne e : ℝ) : EReal))
    omega
  have hbot : (tri x n).1 ≠ ⊥ := by
    intro hb
    have h1 := tri_count x ⊥ bot_ne_top n
    rw [hsum, hb, on_true (le_refl _)] at h1
    have h2 : count (fun i => ((e i : ℝ) : EReal)) ⊥ = 0 := by
      unfold count
      exact Finset.sum_eq_zero fun i _ => on_false (by rw [le_bot_iff]; exact EReal.coe_ne_bot _)
    omega
  have ha : (tri x n).1 = (((tri x n).1.toReal : ℝ) : EReal) :=
    (EReal.coe_toReal (ne_top_of_le_ne_top htop (l1.trans l2)) hbot).symm
  have hb : (tri x n).2.1 = (((tri x n).2.1.toReal : ℝ) : EReal) :=
    (EReal.coe_toReal (ne_top_of_le_ne_top htop l2) (ne_bot_of_le_ne_bot hbot l1)).symm
  have hc : (tri x n).2.2 = (((tri x n).2.2.toReal : ℝ) : EReal) :=
    (EReal.coe_toReal htop (ne_bot_of_le_ne_bot hbot (l1.trans l2))).symm
  have hcount := fun v : ℝ => tri_count x (v : EReal) (EReal.coe_ne_top _) n
  rw [ha, hb] at l1
  rw [hb, hc] at l2
  refine ⟨_, _, _, EReal.coe_le_coe_iff.mp l1, EReal.coe_le_coe_iff.mp l2, fun v => ?_⟩
  rw [← hsum, ← hcount v]
  conv_rhs => rw [ha, hb, hc]
  simp only [EReal.coe_le_coe_iff]

/-- The first three of a family put in order. -/
theorem sorted_least {n : ℕ} (hn : 3 ≤ n) (f : Fin n → ℝ) (π : Fin n → Fin n) (hπ : Function.Bijective π)
    (hs : ∀ i j, i < j → f (π i) ≤ f (π j)) :
    Least (fun i => ((f i : ℝ) : EReal)) (f (π ⟨0, by omega⟩)) (f (π ⟨1, by omega⟩)) (f (π ⟨2, by omega⟩)) := by
  refine ⟨hs _ _ (by simp), hs _ _ (by simp [Fin.lt_def]), fun v => ?_⟩
  have h1 : count (fun i => ((f i : ℝ) : EReal)) v = ∑ k, on (f (π k) ≤ v) := by
    unfold count
    simp only [EReal.coe_le_coe_iff]
    exact (Function.Bijective.sum_comp hπ (fun i => on (f i ≤ v))).symm
  rw [h1]
  obtain ⟨n, rfl⟩ : ∃ k, n = k + 3 := ⟨n - 3, by omega⟩
  rw [Fin.sum_univ_succ, Fin.sum_univ_succ, Fin.sum_univ_succ]
  have mono : ∀ i j, i < j → f (π j) ≤ v → f (π i) ≤ v := fun i j hij hj => (hs i j hij).trans hj
  change on (f (π 0) ≤ v) + on (f (π 1) ≤ v) + on (f (π 2) ≤ v) = min 3 (on (f (π 0) ≤ v) + (on (f (π 1) ≤ v) + (on (f (π 2) ≤ v) + _)))
  have l02 : (0 : Fin (n + 3)) < 2 := by
    rw [Fin.lt_def]; change 0 % (n + 3) < 2 % (n + 3)
    rw [Nat.mod_eq_of_lt (by omega), Nat.mod_eq_of_lt (by omega)]; omega
  have l12 : (1 : Fin (n + 3)) < 2 := by
    rw [Fin.lt_def]; change 1 % (n + 3) < 2 % (n + 3)
    rw [Nat.mod_eq_of_lt (by omega), Nat.mod_eq_of_lt (by omega)]; omega
  have hone : ∀ p, on p ≤ 1 := fun p => by unfold on; split_ifs <;> omega
  have g0 := hone (f (π 0) ≤ v)
  have g1 := hone (f (π 1) ≤ v)
  have g2 := hone (f (π 2) ≤ v)
  by_cases h2 : f (π 2) ≤ v
  · have ha := mono 0 2 l02 h2
    have hb := mono 1 2 l12 h2
    rw [on_true h2, on_true ha, on_true hb]; omega
  · rw [Finset.sum_eq_zero fun i _ => ?_]
    · omega
    · refine on_false fun hi => h2 (mono 2 _ ?_ hi)
      simp only [Fin.lt_def, Fin.val_succ]
      change 2 % (n + 3) < _
      rw [Nat.mod_eq_of_lt (by omega)]; omega

/-- The three least are determined by their counts. -/
theorem Least.unique {ι : Type*} [Fintype ι] {e : ι → EReal} {x₁ x₂ x₃ y₁ y₂ y₃ : ℝ} (hx : Least e x₁ x₂ x₃) (hy : Least e y₁ y₂ y₃) :
    x₁ = y₁ ∧ x₂ = y₂ ∧ x₃ = y₃ := by
  have key : ∀ {x₁ x₂ x₃ y₁ y₂ y₃ : ℝ}, Least e x₁ x₂ x₃ → Least e y₁ y₂ y₃ → x₁ ≤ y₁ ∧ x₂ ≤ y₂ ∧ x₃ ≤ y₃ := by
    intro x₁ x₂ x₃ y₁ y₂ y₃ hx hy
    have hxl := hx.le12
    have hxl' := hx.le23
    have hyl := hy.le12
    have hyl' := hy.le23
    have hone : ∀ p, on p ≤ 1 := fun p => by unfold on; split_ifs <;> omega
    refine ⟨?_, ?_, ?_⟩
    · by_contra hn
      have h1 := (hx.count y₁).trans (hy.count y₁).symm
      rw [on_true (le_refl y₁), on_false hn, on_false (by linarith), on_false (by linarith)] at h1
      omega
    · by_contra hn
      have h1 := (hx.count y₂).trans (hy.count y₂).symm
      rw [on_true (le_refl y₂), on_true hyl, on_false hn, on_false (show ¬ x₃ ≤ y₂ by linarith)] at h1
      have := hone (x₁ ≤ y₂)
      omega
    · by_contra hn
      have h1 := (hx.count y₃).trans (hy.count y₃).symm
      rw [on_true (le_refl y₃), on_true hyl', on_true (hyl.trans hyl'), on_false hn] at h1
      have := hone (x₁ ≤ y₃)
      have := hone (x₂ ≤ y₃)
      omega
  have a := key hx hy
  have b := key hy hx
  exact ⟨le_antisymm a.1 b.1, le_antisymm a.2.1 b.2.1, le_antisymm a.2.2 b.2.2⟩

/-- Moving every member by `q` and raising the negative ones to zero keeps the three least. -/
theorem Least.shift {n : ℕ} {e : Fin n → ℝ} {x₁ x₂ x₃ : ℝ} (h : Least (fun i => ((e i : ℝ) : EReal)) x₁ x₂ x₃) (hn : 3 ≤ n) (q : ℝ) :
    Least (fun i => ((max (e i + q) 0 : ℝ) : EReal)) (max (x₁ + q) 0) (max (x₂ + q) 0) (max (x₃ + q) 0) := by
  refine ⟨max_le_max (by linarith [h.le12]) (le_refl _), max_le_max (by linarith [h.le23]) (le_refl _), fun v => ?_⟩
  have hiff : ∀ u : ℝ, max (u + q) 0 ≤ v ↔ (u ≤ v - q ∧ 0 ≤ v) := fun u => by
    rw [max_le_iff]; constructor <;> rintro ⟨a, b⟩ <;> exact ⟨by linarith, b⟩
  by_cases hv : 0 ≤ v
  · have h1 := h.count (v - q)
    unfold Nearest.count at h1 ⊢
    simp only [EReal.coe_le_coe_iff, hiff, hv, and_true] at h1 ⊢
    exact h1
  · unfold Nearest.count
    simp only [EReal.coe_le_coe_iff, hiff, hv, and_false]
    simp [on]

end Cert.Nearest

end
-- ==== Proof.RefOut.lean ====
module

public import proofs.«01_k».proof.Proof.Unit
public import proofs.«01_k».proof.Proof.Nearest
public import proofs.«01_k».proof.Proof.Gen.ReferenceIdeal.Run
public import Idealize.ShloMosaic.Lib.SortFacts

/-!
The reference's result, from the trained matrix.
-/

@[expose] public section

set_option maxRecDepth 8192

noncomputable section

namespace Cert.ReferenceIdeal.Knn

open Idealize.ShloMosaic Idealize.ShloMosaic.TcCoe
open Cert.ReferenceIdeal Cert.ReferenceIdeal.Value Cert.ReferenceIdeal.Gen Cert.Nearest

/-- The normalised query rows. -/
def qn (q : FVec Ideal S4096x512 .f32) : FVec Ideal S4096x512 .f32 :=
  Host.divf q (broadcastInDim S4096x512 ![0, 1] bcast_S4096x1_S4096x512_0_1 (maximumf (Host.sqrt (broadcastInDim S4096x1 ![0] bcast_S4096_S4096x1_0
    (Host.reduceAdd (mulf q q) (constant S_ .f32 0x00000000#32) reducesTo_S4096x512_S4096_d1 h_S_)))
    (broadcastInDim S4096x1 ![] bcast_S_S4096x1 (constant S_ .f32 0x2B8CBCCC#32))))

/-- The normalised support rows. -/
def sn (x : FVec Ideal S2048x512 .f32) : FVec Ideal S2048x512 .f32 :=
  Host.divf x (broadcastInDim S2048x512 ![0, 1] bcast_S2048x1_S2048x512_0_1 (maximumf (Host.sqrt (broadcastInDim S2048x1 ![0] bcast_S2048_S2048x1_0
    (Host.reduceAdd (mulf x x) (constant S_ .f32 0x00000000#32) reducesTo_S2048x512_S2048_d1 h_S_)))
    (broadcastInDim S2048x1 ![] bcast_S_S2048x1 (constant S_ .f32 0x2B8CBCCC#32))))

/-- The transformed query rows. -/
def dq (q : FVec Ideal S4096x512 .f32) (w : FVec Ideal S512x512 .f32) : FVec Ideal S4096x512 .f32 :=
  Host.dotGeneral dot_S4096x512_S512x512_S4096x512_1_0_0_1_n_n none q (transpose S512x512 [1, 0] w transposes_S512x512_S512x512_1_0)

/-- The transformed support rows. -/
def ds (x : FVec Ideal S2048x512 .f32) (w : FVec Ideal S512x512 .f32) : FVec Ideal S2048x512 .f32 :=
  Host.dotGeneral dot_S2048x512_S512x512_S2048x512_1_0_0_1_n_n none x (transpose S512x512 [1, 0] w transposes_S512x512_S512x512_1_0)

/-- The squared distances of transformed rows. -/
def d2 (a : FVec Ideal S4096x512 .f32) (b : FVec Ideal S2048x512 .f32) : FVec Ideal S4096x2048 .f32 :=
  subf (addf (broadcastInDim S4096x2048 ![0, 1] bcast_S4096x1_S4096x2048_0_1 (broadcastInDim S4096x1 ![0] bcast_S4096_S4096x1_0
      (Host.reduceAdd (mulf a a) (constant S_ .f32 0x00000000#32) reducesTo_S4096x512_S4096_d1 h_S_)))
      (broadcastInDim S4096x2048 ![0, 1] bcast_S1x2048_S4096x2048_0_1 (broadcastInDim S1x2048 ![1] bcast_S2048_S1x2048_1
      (Host.reduceAdd (mulf b b) (constant S_ .f32 0x00000000#32) reducesTo_S2048x512_S2048_d1 h_S_))))
    (mulf (broadcastInDim S4096x2048 ![] bcast_S_S4096x2048 (constant S_ .f32 0x40000000#32))
      (Host.dotGeneral dot_S4096x512_S512x2048_S4096x2048_1_0_0_1_n_n none a (transpose S512x2048 [1, 0] b transposes_S2048x512_S512x2048_1_0)))

/-- The squared distances, not below zero, with their signs turned. -/
def near (d : FVec Ideal S4096x2048 .f32) : FVec Ideal S4096x2048 .f32 :=
  Host.negf (maximumf d (broadcastInDim S4096x2048 ![] bcast_S_S4096x2048 (constant S_ .f32 0x00000000#32)))

/-- The three greatest of each row. -/
def top (d : FVec Ideal S4096x2048 .f32) : FVec Ideal S4096x3 .f32 :=
  (Host.topK S4096x3 1 (FloatOps.cmpfTotal .gt) d sliceFits_S4096x2048_S4096x3).1

/-- One less the mean of three distances. -/
def mean (t : FVec Ideal S4096x3 .f32) : FVec Ideal S4096 .f32 :=
  subf (broadcastInDim S4096 ![] bcast_S_S4096 (constant S_ .f32 0x3F800000#32)) (Host.divf (Host.reduceAdd (Host.sqrt (Host.negf t))
    (constant S_ .f32 0x00000000#32) reducesTo_S4096x3_S4096_d1 h_S_) (broadcastInDim S4096 ![] bcast_S_S4096 (constant S_ .f32 0x40400000#32)))

theorem out_eq (V : Valuation τ sig (Elt Ideal)) : out_main_v68 V = mean (top (near (d2
    (dq (qn (V (Proc.devRef .tc main_arg2))) (V (Proc.devRef .tc main_v30_4))) (ds (sn (V (Proc.devRef .tc main_arg0))) (V (Proc.devRef .tc main_v30_4)))))) := rfl

theorem qn_at (q : FVec Ideal S4096x512 .f32) (i : Fin 4096) (j : Fin 512) :
    qn q (ix2 i j) = Ideal.div (q (ix2 i j)) (max (Ideal.sqrt (∑ k, q (ix2 i k) * q (ix2 i k))) (Ideal.ofBits .f32 0x2B8CBCCC#32)) := by
  generalize hr : Ideal.div (q (ix2 i j)) (max (Ideal.sqrt (∑ k, q (ix2 i k) * q (ix2 i k))) (Ideal.ofBits .f32 0x2B8CBCCC#32)) = r
  pointwise [qn]
  exact hr

theorem sn_at (q : FVec Ideal S2048x512 .f32) (i : Fin 2048) (j : Fin 512) :
    sn q (ix2 i j) = Ideal.div (q (ix2 i j)) (max (Ideal.sqrt (∑ k, q (ix2 i k) * q (ix2 i k))) (Ideal.ofBits .f32 0x2B8CBCCC#32)) := by
  generalize hr : Ideal.div (q (ix2 i j)) (max (Ideal.sqrt (∑ k, q (ix2 i k) * q (ix2 i k))) (Ideal.ofBits .f32 0x2B8CBCCC#32)) = r
  pointwise [sn]
  exact hr

theorem dq_at (q : FVec Ideal S4096x512 .f32) (w : FVec Ideal S512x512 .f32) (i : Fin 4096) (j : Fin 512) :
    dq q w (ix2 i j) = ∑ k, q (ix2 i k) * w (ix2 j k) := by
  generalize hr : ∑ k, q (ix2 i k) * w (ix2 j k) = r
  pointwise [dq]
  exact hr

theorem ds_at (q : FVec Ideal S2048x512 .f32) (w : FVec Ideal S512x512 .f32) (i : Fin 2048) (j : Fin 512) :
    ds q w (ix2 i j) = ∑ k, q (ix2 i k) * w (ix2 j k) := by
  generalize hr : ∑ k, q (ix2 i k) * w (ix2 j k) = r
  pointwise [ds]
  exact hr

theorem d2_at (a : FVec Ideal S4096x512 .f32) (b : FVec Ideal S2048x512 .f32) (i : Fin 4096) (j : Fin 2048) :
    d2 a b (ix2 i j) = ∑ k, a (ix2 i k) * a (ix2 i k) + ∑ k, b (ix2 j k) * b (ix2 j k)
      - Ideal.ofBits .f32 0x40000000#32 * ∑ k, a (ix2 i k) * b (ix2 j k) := by
  generalize hr : ∑ k, a (ix2 i k) * a (ix2 i k) + ∑ k, b (ix2 j k) * b (ix2 j k)
      - Ideal.ofBits .f32 0x40000000#32 * ∑ k, a (ix2 i k) * b (ix2 j k) = r
  pointwise [d2]
  exact hr

theorem near_at (d : FVec Ideal S4096x2048 .f32) (i : Fin 4096) (j : Fin 2048) : near d (ix2 i j) = -(max (d (ix2 i j)) 0) := by
  generalize hr : -(max (d (ix2 i j)) 0) = r
  pointwise [near]
  exact hr

theorem mean_at (t : FVec Ideal S4096x3 .f32) (i : Fin 4096) :
    mean t (ix1 i) = 1 - Ideal.div (∑ k, Ideal.sqrt (-(t (ix2 i k)))) (Ideal.ofBits .f32 0x40400000#32) := by
  generalize hr : 1 - Ideal.div (∑ k, Ideal.sqrt (-(t (ix2 i k)))) (Ideal.ofBits .f32 0x40400000#32) = r
  pointwise [mean]
  exact hr

theorem along_at (i : Fin 4096) (j k : Fin 2048) : Shape.Idx.along (s := S4096x2048) (ix2 i j) 1 k = ix2 i k := by
  funext a
  fin_cases a <;> rfl

/-- Where the sort of a row takes its elements from. -/
def from_ (d : FVec Ideal S4096x2048 .f32) (i : Fin 4096) : Fin 2048 → Fin 2048 :=
  sortedFrom fun k k' => FloatOps.cmpfTotal (F := Ideal) (φ := .f32) .gt (d (ix2 i k)) (d (ix2 i k')) == 1#1

theorem top_at (d : FVec Ideal S4096x2048 .f32) (i : Fin 4096) (k : Fin 3) : top d (ix2 i k) = d (ix2 i (from_ d i ⟨k, by omega⟩)) := by
  have hJ : (fun a => ⟨0 + (ix2 i k (a.cast sliceFits_S4096x2048_S4096x3.1.symm)).val,
      Nat.lt_of_lt_of_le (Nat.add_lt_add_left (Fin.isLt _) _) (sliceFits_S4096x2048_S4096x3.2 a)⟩ : S4096x2048.Idx) = ix2 i ⟨k, by omega⟩ := by
    funext a
    fin_cases a
    · exact Fin.ext (Nat.zero_add _)
    · exact Fin.ext (Nat.zero_add _)
  have h : ∀ J : S4096x2048.Idx, (Host.sort2 S4096x2048 1 (fun l r : EReal × BitVec 32 => FloatOps.cmpfTotal (F := Ideal) (φ := .f32) .gt l.1 r.1) d
      (fun i => if hd : 1 < S4096x2048.rank then iotaInDim S4096x2048 32 ⟨1, hd⟩ i else 0#32)).1 J
      = d (J.along 1 (sortedFrom (fun k k' => FloatOps.cmpfTotal (F := Ideal) (φ := .f32) .gt (d (J.along 1 k)) (d (J.along 1 k')) == 1#1) (J 1))) := by
    intro J
    unfold Host.sort2
    rw [dif_pos (by decide : 1 < S4096x2048.rank)]
    rfl
  have h2 : top d (ix2 i k) = (Host.sort2 S4096x2048 1 (fun l r : EReal × BitVec 32 => FloatOps.cmpfTotal (F := Ideal) (φ := .f32) .gt l.1 r.1) d
      (fun i => if hd : 1 < S4096x2048.rank then iotaInDim S4096x2048 32 ⟨1, hd⟩ i else 0#32)).1 (ix2 i ⟨k, by omega⟩) := by
    rw [← hJ]
    rfl
  have h3 : (fun b : Fin 2048 => d (Shape.Idx.along (s := S4096x2048) (ix2 i ⟨k, by omega⟩) 1 b)) = fun b => d (ix2 i b) :=
    funext fun b => congrArg d (along_at i _ b)
  rw [h2, h]
  refine (congrArg d (along_at i _ _)).trans ?_
  exact congrArg (fun f : Fin 2048 → EReal => d (ix2 i (sortedFrom (fun a b : Fin 2048 =>
    FloatOps.cmpfTotal (F := Ideal) (φ := .f32) .gt (f a) (f b) == 1#1) ⟨k, by omega⟩))) h3

/-- The score of a row of squared distances. -/
theorem score (D : Fin 4096 → Fin 2048 → ℝ) (i : Fin 4096) (x₁ x₂ x₃ : ℝ)
    (hx : Least (fun j => ((max (D i j) 0 : ℝ) : EReal)) x₁ x₂ x₃) :
    mean (top (near (up2 D))) (ix1 i) = ((1 - (√x₁ + √x₂ + √x₃) * (1 / 3) : ℝ) : EReal) := by
  have hn : ∀ i j, near (up2 D) (ix2 i j) = ((-(max (D i j) 0) : ℝ) : EReal) := by
    intro i j
    rw [near_at, up2_ix2, ← EReal.coe_zero, ← EReal.coe_strictMono.monotone.map_max, ← EReal.coe_neg]
  set π := from_ (near (up2 D)) i with hπ
  have hR : (fun k k' => FloatOps.cmpfTotal (F := Ideal) (φ := .f32) .gt (near (up2 D) (ix2 i k)) (near (up2 D) (ix2 i k')) == 1#1)
      = fun k k' : Fin 2048 => decide (max (D i k) 0 < max (D i k') 0) := by
    funext k k'
    rw [hn, hn]
    change (BitVec.ofBool (decide (((-(max (D i k') 0) : ℝ) : EReal) < ((-(max (D i k) 0) : ℝ) : EReal))) == 1#1) = _
    by_cases h : max (D i k) 0 < max (D i k') 0
    · have h' : -(max (D i k') 0) < -(max (D i k) 0) := neg_lt_neg h
      simp only [EReal.coe_lt_coe_iff, h, h', decide_true]; rfl
    · have h' : ¬ -(max (D i k') 0) < -(max (D i k) 0) := fun e => h (neg_lt_neg_iff.mp e)
      simp only [EReal.coe_lt_coe_iff, h, h', decide_false]; rfl
  have hπ' : π = sortedFrom fun k k' : Fin 2048 => decide (max (D i k) 0 < max (D i k') 0) := by rw [hπ, from_, hR]
  have hs := sorted_least (by norm_num) (fun j => max (D i j) 0) π (hπ' ▸ ⟨sortedFrom_injective _, sortedFrom_surjective _⟩) (by
    intro a b hab
    rw [hπ']
    have := sortedFrom_noInversion (fun k k' : Fin 2048 => decide (max (D i k) 0 < max (D i k') 0)) _
      (fun a b h => by simp only [decide_eq_true_eq, decide_eq_false_iff_not] at h ⊢; exact h.not_gt) (fun a b h => h)
      (fun a b c h1 h2 => by simp only [decide_eq_false_iff_not, not_lt] at h1 h2 ⊢; exact h2.trans h1) a b hab
    simpa only [decide_eq_false_iff_not, not_lt] using this)
  obtain ⟨h1, h2, h3⟩ := hx.unique hs
  rw [mean_at, Fin.sum_univ_three, top_at, top_at, top_at, hn, hn, hn, ← EReal.coe_neg, ← EReal.coe_neg, ← EReal.coe_neg, neg_neg, neg_neg, neg_neg,
    coe_sqrt (le_max_right _ _), coe_sqrt (le_max_right _ _), coe_sqrt (le_max_right _ _), ← EReal.coe_add, ← EReal.coe_add, Words.three,
    coe_div (by norm_num), ← EReal.coe_one, ← EReal.coe_sub, h1, h2, h3, div_eq_mul_one_div]
  rfl

end Cert.ReferenceIdeal.Knn

end
-- ==== Proof.TrainSteps.lean ====
module

public import proofs.«01_k».proof.Proof.TrainReal
public import Idealize.ShloMosaic.Lib.Pointwise

/-!
The kernel's training steps, on arrays of real numbers.
-/

@[expose] public section

noncomputable section

namespace Cert

open Idealize.ShloMosaic

namespace KernelIdeal.Train

open Cert.KernelIdeal Cert.KernelIdeal.Gen

/-- The kernel's step sizes. -/
theorem size_eq (i : ℕ) (hi : i < 10) : size (F := Ideal) i = ((aR i : ℝ) : EReal) := by
  have hn (s : String) (w : BitVec 32) (v : ℝ) (hv : Cert.KernelIdeal.κ s = some ((v : ℝ) : EReal)) (u : ℝ) (hu : v = u) :
      Named.named (F := Ideal) Cert.KernelIdeal.κ s (φ := .f32) w = ((u : ℝ) : EReal) := by
    subst hu; exact IdealRules.named_const.ideal_named_scalar _ _ _ _ hv
  interval_cases i
  all_goals
    refine hn _ _ _ rfl _ ?_
    unfold aR
    norm_num

/-- The kernel's guards. -/
theorem guard_eq (i : ℕ) (hi : i < 10) : guard (F := Ideal) i = ((eR i : ℝ) : EReal) := by
  have hn (s : String) (w : BitVec 32) (v : ℝ) (hv : Cert.KernelIdeal.κ s = some ((v : ℝ) : EReal)) (u : ℝ) (hu : v = u) :
      Named.named (F := Ideal) Cert.KernelIdeal.κ s (φ := .f32) w = ((u : ℝ) : EReal) := by
    subst hu; exact IdealRules.named_const.ideal_named_scalar _ _ _ _ hv
  interval_cases i
  all_goals
    refine hn _ _ _ rfl _ ?_
    unfold eR
    norm_num

/-- The mean of the gradient, at an index. -/
theorem nextM_at (A : Args Ideal) (s : State Ideal) (g : FVec Ideal S512x512 .f32) (hg : grad A s.w = g) (a b : Fin 512) :
    nextM A s (ix2 a b) = Ideal.ofBits .f32 0x3F666666#32 * s.m (ix2 a b) + Ideal.ofBits .f32 0x3DCCCCCD#32 * g (ix2 a b) := by
  unfold nextM
  rw [hg]
  obtain ⟨w, m, v⟩ := s
  generalize hr : Ideal.ofBits .f32 0x3F666666#32 * m (ix2 a b) + Ideal.ofBits .f32 0x3DCCCCCD#32 * g (ix2 a b) = r
  pointwise [b1m, b1g]
  exact hr

/-- The mean of the squared gradient, at an index. -/
theorem nextV_at (A : Args Ideal) (s : State Ideal) (g : FVec Ideal S512x512 .f32) (hg : grad A s.w = g) (a b : Fin 512) :
    nextV A s (ix2 a b) = Ideal.ofBits .f32 0x3F7FBE77#32 * s.v (ix2 a b) + Ideal.ofBits .f32 0x3A83126F#32 * g (ix2 a b) * g (ix2 a b) := by
  unfold nextV
  rw [hg]
  obtain ⟨w, m, v⟩ := s
  generalize hr : Ideal.ofBits .f32 0x3F7FBE77#32 * v (ix2 a b) + Ideal.ofBits .f32 0x3A83126F#32 * g (ix2 a b) * g (ix2 a b) = r
  pointwise [b2v, b2g]
  exact hr

/-- The matrix after a step, at an index. -/
theorem upd_at (i : ℕ) (w m v : FVec Ideal S512x512 .f32) (a b : Fin 512) :
    subf w (upd i m v) (ix2 a b)
      = w (ix2 a b) - Ideal.div (size (F := Ideal) i * m (ix2 a b)) (Ideal.sqrt (v (ix2 a b)) + guard (F := Ideal) i) := by
  unfold upd
  generalize size (F := Ideal) i = x
  generalize guard (F := Ideal) i = y
  generalize hr : w (ix2 a b) - Ideal.div (x * m (ix2 a b)) (Ideal.sqrt (v (ix2 a b)) + y) = r
  pointwise
  exact hr

/-- The kernel's step, on reals, is the step over the reals. -/
theorem step_up (S : Fin 2048 → Fin 512 → ℝ) (y : Fin 2048 → Fin 64) (inv : ℝ) (i : ℕ) (hi : i < 10) (s : StR)
    (hv : ∀ a b, 0 ≤ (stepR y inv S i s).v a b) (h : ∀ j, 0 < Loss.sq S s.w j) :
    step (argsR S y inv) i (upSt s) = upSt (stepR y inv S i s) := by
  have hg : grad (argsR S y inv) (upSt s).w = up2 (Loss.byClass y inv S s.w) := grad_up S y inv s.w h
  have hm : nextM (argsR S y inv) (upSt s) = up2 (stepR y inv S i s).m := by
    refine eq_up2 fun a b => ?_
    rw [nextM_at _ _ _ hg]
    simp only [upSt, up2_ix2, Words.b1_eq, Words.c1_eq, ← EReal.coe_mul, ← EReal.coe_add, stepR]
  have hv' : nextV (argsR S y inv) (upSt s) = up2 (stepR y inv S i s).v := by
    refine eq_up2 fun a b => ?_
    rw [nextV_at _ _ _ hg]
    simp only [upSt, up2_ix2, Words.b2_eq, Words.c2_eq, ← EReal.coe_mul, ← EReal.coe_add, stepR]
  have hw : subf (upSt s).w (upd i (up2 (stepR y inv S i s).m) (up2 (stepR y inv S i s).v)) = up2 (stepR y inv S i s).w := by
    refine eq_up2 fun a b => ?_
    have hp : 0 < √((stepR y inv S i s).v a b) + eR i := add_pos_of_nonneg_of_pos (Real.sqrt_nonneg _) (eR_pos i)
    rw [upd_at, size_eq i hi, guard_eq i hi, up2_ix2, up2_ix2, coe_sqrt (hv a b), ← EReal.coe_mul, ← EReal.coe_add, coe_div hp.ne']
    simp only [upSt, up2_ix2, ← EReal.coe_sub, stepR]
  unfold step
  rw [hm, hv', hw]
  simp only [upSt]

/-- Comparing two positions for equality. -/
theorem cmpi_iota (a b : Fin 512) :
    IntOp.cmpi CmpIPredicate.eq (BitVec.ofNat 32 ↑a) (BitVec.ofNat 32 ↑b) = if a = b then 1#1 else 0#1 := by
  have : (BitVec.ofNat 32 (a : ℕ) = BitVec.ofNat 32 (b : ℕ)) ↔ a = b := by
    rw [← BitVec.toNat_inj]
    simp only [BitVec.toNat_ofNat, Fin.ext_iff]
    omega
  by_cases hab : a = b
  · simp [IntOp.cmpi, hab]
  · have h2 : (BitVec.ofNat 32 (a : ℕ) == BitVec.ofNat 32 (b : ℕ)) = false := beq_eq_false_iff_ne.mpr fun e => hab (this.mp e)
    rw [if_neg hab]
    unfold IntOp.cmpi
    simp only [h2]
    rfl

/-- The kernel's state after so many steps, on reals. -/
theorem st_up (S : Fin 2048 → Fin 512 → ℝ) (y : Fin 2048 → Fin 64) (inv : ℝ) :
    ∀ i, i ≤ 10 → (∀ k, k < i → ∀ j, 0 < Loss.sq S (stR y inv S k).w j) → st (argsR S y inv) i = upSt (stR y inv S i)
  | 0, _, _ => by
    have h5 : k0_pay5 (F := Ideal) = up2 startR.w := by
      refine eq_up2 fun a b => ?_
      pointwise [k0_pay5, startR]
      rw [cmpi_iota a b]
      by_cases hab : a = b
      · simp [hab, Scalar.select]
      · simp [hab, Scalar.select]
    have h6 : k0_pay6 (F := Ideal) = up2 startR.m := by
      refine eq_up2 fun a b => ?_
      pointwise [k0_pay6, startR]
      rfl
    have h7 : k0_pay7 (F := Ideal) = up2 startR.v := by
      refine eq_up2 fun a b => ?_
      pointwise [k0_pay7, startR]
      rfl
    unfold st
    rw [h5, h6, h7]; rfl
  | i + 1, hi, h => by
    have ih := st_up S y inv i (by omega) (fun k hk => h k (by omega))
    change step _ i (st _ i) = _
    rw [ih, step_up S y inv i (by omega) _ (stR_v y inv S (i + 1)) (h i (by omega))]
    rfl

end KernelIdeal.Train

end Cert

end
-- ==== Proof.KnnRead.lean ====
module

public import proofs.«01_k».proof.Proof.Gen.KernelIdeal.Frame
public import proofs.«01_k».proof.Proof.Nearest
public import proofs.«01_k».proof.Proof.Words
public import Idealize.ShloMosaic.Lib.Pointwise
public import Idealize.ShloMosaic.Lib.Pipeline.Value

/-!
What the nearest-neighbour call of the kernel computes for one block of queries.
-/

@[expose] public section

noncomputable section

namespace Cert.KernelIdeal.Knn

open Idealize.ShloMosaic
open Cert.KernelIdeal Cert.KernelIdeal.Gen Cert.Nearest

/-- The numbers of lane `l` of row `i`, one for each chunk. -/
def lane (E : FVec Ideal S1024x2048 .f32) (i : Fin 1024) (l : Fin 128) (k : ℕ) : EReal :=
  if h : 128 * k + l.val < 2048 then E (ix2 i ⟨128 * k + l.val, h⟩) else ⊤

/-- Chunk `k`. -/
def sl (E : FVec Ideal S1024x2048 .f32) (k : ℕ) : FVec Ideal S1024x128 .f32 := fun j => lane E (j 0) (j 1) k

/-- The first places after `k` chunks. -/
def pa (E : FVec Ideal S1024x2048 .f32) (k : ℕ) : FVec Ideal S1024x128 .f32 := fun j => (tri (lane E (j 0) (j 1)) k).1

/-- The second places after `k` chunks. -/
def pb (E : FVec Ideal S1024x2048 .f32) (k : ℕ) : FVec Ideal S1024x128 .f32 := fun j => (tri (lane E (j 0) (j 1)) k).2.1

/-- The third places after `k` chunks. -/
def pc (E : FVec Ideal S1024x2048 .f32) (k : ℕ) : FVec Ideal S1024x128 .f32 := fun j => (tri (lane E (j 0) (j 1)) k).2.2

/-- What chunk `k` pushes out of the first places. -/
def ha (E : FVec Ideal S1024x2048 .f32) (k : ℕ) : FVec Ideal S1024x128 .f32 :=
  fun j => max (tri (lane E (j 0) (j 1)) k).1 (lane E (j 0) (j 1) k)

/-- What chunk `k` pushes out of the second places. -/
def hb (E : FVec Ideal S1024x2048 .f32) (k : ℕ) : FVec Ideal S1024x128 .f32 :=
  fun j => max (tri (lane E (j 0) (j 1)) k).2.1 (max (tri (lane E (j 0) (j 1)) k).1 (lane E (j 0) (j 1) k))

variable (E : FVec Ideal S1024x2048 .f32) (k : ℕ)

theorem min_a : minimumf (pa E k) (sl E k) = pa E (k + 1) := rfl
theorem max_a : maximumf (pa E k) (sl E k) = ha E k := rfl
theorem min_b : minimumf (pb E k) (ha E k) = pb E (k + 1) := rfl
theorem max_b : maximumf (pb E k) (ha E k) = hb E k := rfl
theorem min_c : minimumf (pc E k) (hb E k) = pc E (k + 1) := rfl

theorem top_a : k1_pay5 (F := Ideal) = pa E 0 := by funext j; exact Words.inf
theorem top_b : k1_pay5 (F := Ideal) = pb E 0 := by funext j; exact Words.inf
theorem top_c : k1_pay5 (F := Ideal) = pc E 0 := by funext j; exact Words.inf

theorem min_a0 : minimumf (k1_pay5 (F := Ideal)) (sl E 0) = pa E 1 := by rw [top_a E]; rfl
theorem max_a0 : maximumf (k1_pay5 (F := Ideal)) (sl E 0) = ha E 0 := by rw [top_a E]; rfl
theorem min_b0 : minimumf (k1_pay5 (F := Ideal)) (ha E 0) = pb E 1 := by rw [top_b E]; rfl
theorem max_b0 : maximumf (k1_pay5 (F := Ideal)) (ha E 0) = hb E 0 := by rw [top_b E]; rfl
theorem min_c0 : minimumf (k1_pay5 (F := Ideal)) (hb E 0) = pc E 1 := by rw [top_c E]; rfl

/-- A slice of 128 columns is a chunk. -/
theorem slice_eq (o : ℕ) (k : ℕ) (hk : k < 16) (ho : o = 128 * k) (h : S1024x2048.Slices ![0, o] S1024x128) :
    extractStridedSlice S1024x128 ![0, o] E h = sl E k := by
  funext j
  subst ho
  have hl : 128 * k + (j 1).val < 2048 := by have : (j 1).val < 128 := (j 1).isLt; omega
  unfold sl lane
  rw [dif_pos hl]
  unfold extractStridedSlice
  congr 1
  funext a
  fin_cases a
  · apply Fin.ext; simp [ix2]
  · apply Fin.ext; simp [ix2]

section
variable (v0 : Vec Ideal S1024x512 .f32) (v7 : Vec Ideal S512x512 .f32) (v10 : Vec Ideal S2048x512 .f32) (v18 : Vec Ideal S1x2048 .f32)

/-- The distances of a block of queries, a term that is the same along a row left out. -/
abbrev dist : FVec Ideal S1024x2048 .f32 := k1_pay4 v0 v7 v10 v18

theorem p6 : k1_pay6 v0 v7 v10 v18 = sl (dist v0 v7 v10 v18) 0 := by unfold k1_pay6; exact slice_eq _ 0 0 (by omega) (by omega) _
theorem p7 : k1_pay7 v0 v7 v10 v18 = pa (dist v0 v7 v10 v18) 1 := by unfold k1_pay7; rw [p6]; exact min_a0 _
theorem p8 : k1_pay8 v0 v7 v10 v18 = ha (dist v0 v7 v10 v18) 0 := by unfold k1_pay8; rw [p6]; exact max_a0 _
theorem p9 : k1_pay9 v0 v7 v10 v18 = pb (dist v0 v7 v10 v18) 1 := by unfold k1_pay9; rw [p8]; exact min_b0 _
theorem p10 : k1_pay10 v0 v7 v10 v18 = sl (dist v0 v7 v10 v18) 1 := by unfold k1_pay10; exact slice_eq _ 128 1 (by omega) (by omega) _
theorem p11 : k1_pay11 v0 v7 v10 v18 = pa (dist v0 v7 v10 v18) 2 := by unfold k1_pay11; rw [p7, p10]; rfl
theorem p12 : k1_pay12 v0 v7 v10 v18 = ha (dist v0 v7 v10 v18) 1 := by unfold k1_pay12; rw [p7, p10]; rfl
theorem p13 : k1_pay13 v0 v7 v10 v18 = pb (dist v0 v7 v10 v18) 2 := by unfold k1_pay13; rw [p9, p12]; rfl
theorem p14 : k1_pay14 v0 v7 v10 v18 = sl (dist v0 v7 v10 v18) 2 := by unfold k1_pay14; exact slice_eq _ 256 2 (by omega) (by omega) _
theorem p15 : k1_pay15 v0 v7 v10 v18 = pa (dist v0 v7 v10 v18) 3 := by unfold k1_pay15; rw [p11, p14]; rfl
theorem p16 : k1_pay16 v0 v7 v10 v18 = ha (dist v0 v7 v10 v18) 2 := by unfold k1_pay16; rw [p11, p14]; rfl
theorem p17 : k1_pay17 v0 v7 v10 v18 = pb (dist v0 v7 v10 v18) 3 := by unfold k1_pay17; rw [p13, p16]; rfl
theorem p18 : k1_pay18 v0 v7 v10 v18 = pc (dist v0 v7 v10 v18) 3 := by
  unfold k1_pay18
  dsimp only
  rw [p8, p9, p12, p13, p16, max_b0, min_c0, max_b, min_c, max_b, min_c]
theorem p19 : k1_pay19 v0 v7 v10 v18 = sl (dist v0 v7 v10 v18) 3 := by unfold k1_pay19; exact slice_eq _ 384 3 (by omega) (by omega) _
theorem p20 : k1_pay20 v0 v7 v10 v18 = pa (dist v0 v7 v10 v18) 4 := by unfold k1_pay20; rw [p15, p19]; rfl
theorem p21 : k1_pay21 v0 v7 v10 v18 = ha (dist v0 v7 v10 v18) 3 := by unfold k1_pay21; rw [p15, p19]; rfl
theorem p22 : k1_pay22 v0 v7 v10 v18 = pb (dist v0 v7 v10 v18) 4 := by unfold k1_pay22; rw [p17, p21]; rfl
end

theorem p23 : k1_pay23 E = sl E 4 := by unfold k1_pay23; exact slice_eq _ 512 4 (by omega) (by omega) _
theorem p24 : k1_pay24 E (pa E 4) = pa E 5 := by unfold k1_pay24; rw [p23]; rfl
theorem p25 : k1_pay25 E (pa E 4) = ha E 4 := by unfold k1_pay25; rw [p23]; rfl
theorem p26 : k1_pay26 E (pa E 4) (pb E 4) = pb E 5 := by unfold k1_pay26; rw [p25]; rfl
theorem p27 : k1_pay27 E = sl E 5 := by unfold k1_pay27; exact slice_eq _ 640 5 (by omega) (by omega) _
theorem p28 : k1_pay28 E (pa E 4) = pa E 6 := by unfold k1_pay28; rw [p24, p27]; rfl
theorem p29 : k1_pay29 E (pa E 4) = ha E 5 := by unfold k1_pay29; rw [p24, p27]; rfl
theorem p30 : k1_pay30 E (pa E 4) (pb E 4) = pb E 6 := by unfold k1_pay30; rw [p26, p29]; rfl
theorem p31 : k1_pay31 E = sl E 6 := by unfold k1_pay31; exact slice_eq _ 768 6 (by omega) (by omega) _
theorem p32 : k1_pay32 E (pa E 4) = pa E 7 := by unfold k1_pay32; rw [p28, p31]; rfl
theorem p33 : k1_pay33 E (pa E 4) = ha E 6 := by unfold k1_pay33; rw [p28, p31]; rfl
theorem p34 : k1_pay34 E (pa E 4) (pb E 4) = pb E 7 := by unfold k1_pay34; rw [p30, p33]; rfl
theorem p35 : k1_pay35 E = sl E 7 := by unfold k1_pay35; exact slice_eq _ 896 7 (by omega) (by omega) _
theorem p36 : k1_pay36 E (pa E 4) = pa E 8 := by unfold k1_pay36; rw [p32, p35]; rfl
theorem p37 : k1_pay37 E (pa E 4) = ha E 7 := by unfold k1_pay37; rw [p32, p35]; rfl
theorem p38 : k1_pay38 E (pa E 4) (pb E 4) = pb E 8 := by unfold k1_pay38; rw [p34, p37]; rfl
theorem p39 : k1_pay39 E = sl E 8 := by unfold k1_pay39; exact slice_eq _ 1024 8 (by omega) (by omega) _
theorem p40 : k1_pay40 E (pa E 4) = pa E 9 := by unfold k1_pay40; rw [p36, p39]; rfl
theorem p41 : k1_pay41 E (pa E 4) = ha E 8 := by unfold k1_pay41; rw [p36, p39]; rfl
theorem p42 : k1_pay42 E (pa E 4) (pb E 4) = pb E 9 := by unfold k1_pay42; rw [p38, p41]; rfl
theorem p43 : k1_pay43 E = sl E 9 := by unfold k1_pay43; exact slice_eq _ 1152 9 (by omega) (by omega) _
theorem p44 : k1_pay44 E (pa E 4) = pa E 10 := by unfold k1_pay44; rw [p40, p43]; rfl
theorem p45 : k1_pay45 E (pa E 4) = ha E 9 := by unfold k1_pay45; rw [p40, p43]; rfl
theorem p46 : k1_pay46 E (pa E 4) (pb E 4) = pb E 10 := by unfold k1_pay46; rw [p42, p45]; rfl
theorem p47 : k1_pay47 E = sl E 10 := by unfold k1_pay47; exact slice_eq _ 1280 10 (by omega) (by omega) _
theorem p48 : k1_pay48 E (pa E 4) = pa E 11 := by unfold k1_pay48; rw [p44, p47]; rfl
theorem p49 : k1_pay49 E (pa E 4) = ha E 10 := by unfold k1_pay49; rw [p44, p47]; rfl
theorem p50 : k1_pay50 E (pa E 4) (pb E 4) = pb E 11 := by unfold k1_pay50; rw [p46, p49]; rfl
theorem p51 : k1_pay51 E = sl E 11 := by unfold k1_pay51; exact slice_eq _ 1408 11 (by omega) (by omega) _
theorem p52 : k1_pay52 E (pa E 4) = pa E 12 := by unfold k1_pay52; rw [p48, p51]; rfl
theorem p53 : k1_pay53 E (pa E 4) = ha E 11 := by unfold k1_pay53; rw [p48, p51]; rfl
theorem p54 : k1_pay54 E (pa E 4) (pb E 4) = pb E 12 := by unfold k1_pay54; rw [p50, p53]; rfl
theorem p55 : k1_pay55 E = sl E 12 := by unfold k1_pay55; exact slice_eq _ 1536 12 (by omega) (by omega) _
theorem p56 : k1_pay56 E (pa E 4) = pa E 13 := by unfold k1_pay56; rw [p52, p55]; rfl
theorem p57 : k1_pay57 E (pa E 4) = ha E 12 := by unfold k1_pay57; rw [p52, p55]; rfl
theorem p58 : k1_pay58 E (pa E 4) (pb E 4) = pb E 13 := by unfold k1_pay58; rw [p54, p57]; rfl
theorem p59 : k1_pay59 E (pb E 3) (pc E 3) (pa E 4) (ha E 3) (pb E 4) = pc E 13 := by
  unfold k1_pay59
  dsimp only
  rw [p25, p26, p29, p30, p33, p34, p37, p38, p41, p42, p45, p46, p49, p50, p53, p54, p57]
  simp only [max_b, min_c]
theorem p60 : k1_pay60 E = sl E 13 := by unfold k1_pay60; exact slice_eq _ 1664 13 (by omega) (by omega) _
theorem p61 : k1_pay61 E (pa E 4) = pa E 14 := by unfold k1_pay61; rw [p56, p60]; rfl
theorem p62 : k1_pay62 E (pa E 4) = ha E 13 := by unfold k1_pay62; rw [p56, p60]; rfl
theorem p63 : k1_pay63 E (pa E 4) (pb E 4) = pb E 14 := by unfold k1_pay63; rw [p58, p62]; rfl

/-- The candidates of a row: the three places of every lane. -/
def cand (E : FVec Ideal S1024x2048 .f32) : FVec Ideal S1024x384 .f32 :=
  concatenate S1024x384 1 [⟨S1024x128, pa E 16⟩, ⟨S1024x128, pb E 16⟩, ⟨S1024x128, pc E 16⟩]
    concatenates_S1024x128_S1024x128_S1024x128_S1024x384_d1

/-- The candidates that the call works out. -/
theorem p64 : k1_pay64 E (pb E 13) (pc E 13) (pa E 14) (ha E 13) (pb E 14) = cand E := by
  unfold k1_pay64 cand
  dsimp only
  rw [slice_eq E 1792 14 (by omega) (by omega), slice_eq E 1920 15 (by omega) (by omega)]
  simp only [max_b, min_c, min_a, max_a, min_b]

end Cert.KernelIdeal.Knn

end
-- ==== Proof.KnnValue.lean ====
module

public import proofs.«01_k».proof.Proof.KnnRead

/-!
The score of one query, from the three least distances of its row.
-/

@[expose] public section

noncomputable section

namespace Cert.KernelIdeal.Knn

open Idealize.ShloMosaic
open Cert.KernelIdeal Cert.KernelIdeal.Gen Cert.Nearest

theorem coe_min (x y : ℝ) : ((min x y : ℝ) : EReal) = min ((x : ℝ) : EReal) ((y : ℝ) : EReal) := EReal.coe_strictMono.monotone.map_min
theorem coe_max (x y : ℝ) : ((max x y : ℝ) : EReal) = max ((x : ℝ) : EReal) ((y : ℝ) : EReal) := EReal.coe_strictMono.monotone.map_max

/-! ### Counting -/

/-- A sum over a range in runs of `n`. -/
theorem sum_runs (f : ℕ → ℕ) (n : ℕ) : ∀ k, ∑ j ∈ Finset.range (n * k), f j = ∑ c ∈ Finset.range k, ∑ l ∈ Finset.range n, f (n * c + l)
  | 0 => by simp
  | k + 1 => by rw [Nat.mul_succ, Finset.sum_range_add, sum_runs f n k, Finset.sum_range_succ]

/-- The candidates of row `i`. -/
def row (E : FVec Ideal S1024x2048 .f32) (i : Fin 1024) (j : Fin 384) : EReal := cand E (ix2 i j)

theorem row_eq (E : FVec Ideal S1024x2048 .f32) (i : Fin 1024) (j : Fin 384) : row E i j =
    if h : j.val < 128 then (tri (lane E i ⟨j.val, h⟩) 16).1
    else if h : j.val - 128 < 128 then (tri (lane E i ⟨j.val - 128, h⟩) 16).2.1
    else (tri (lane E i ⟨j.val - 128 - 128, by have := j.isLt; omega⟩) 16).2.2 := by
  have h : ∀ r, r = row E i j → r = (if h : j.val < 128 then pa E 16 (ix2 i ⟨j.val, h⟩)
    else if h : j.val - 128 < 128 then pb E 16 (ix2 i ⟨j.val - 128, h⟩)
    else pc E 16 (ix2 i ⟨j.val - 128 - 128, by have := j.isLt; omega⟩)) := by
    intro r hr
    unfold row cand at hr
    rw [hr]
    generalize pa E 16 = a
    generalize pb E 16 = b
    generalize pc E 16 = c
    pointwise
  exact h _ rfl

/-- The candidates of a row count, up to three, as the whole row does. -/
theorem row_count (E : FVec Ideal S1024x2048 .f32) (i : Fin 1024) (v : EReal) (hv : v ≠ ⊤) :
    min 3 (count (row E i) v) = min 3 (count (fun j : Fin 2048 => E (ix2 i j)) v) := by
  have h1 : count (row E i) v = ∑ l : Fin 128, (on ((tri (lane E i l) 16).1 ≤ v) + on ((tri (lane E i l) 16).2.1 ≤ v)
      + on ((tri (lane E i l) 16).2.2 ≤ v)) := by
    set G : ℕ → ℕ := fun j => if h : j < 384 then on (row E i ⟨j, h⟩ ≤ v) else 0 with hG
    have h0 : count (row E i) v = ∑ j ∈ Finset.range (128 + 128 + 128), G j := by
      rw [Finset.sum_range]
      unfold Nearest.count
      refine Finset.sum_congr rfl fun j _ => ?_
      have hj : j.val < 384 := j.isLt
      simp [hG, hj]
    rw [h0, Finset.sum_range_add, Finset.sum_range_add, Finset.sum_range, Finset.sum_range, Finset.sum_range,
      ← Finset.sum_add_distrib, ← Finset.sum_add_distrib]
    refine Finset.sum_congr rfl fun l _ => ?_
    have hl := l.isLt
    have e1 : G l.val = on ((tri (lane E i l) 16).1 ≤ v) := by
      have h : l.val < 384 := by omega
      simp only [hG, dif_pos h, row_eq, dif_pos hl]
    have e2 : G (128 + l.val) = on ((tri (lane E i l) 16).2.1 ≤ v) := by
      have h : 128 + l.val < 384 := by omega
      have h' : ¬ (128 + l.val < 128) := by omega
      have h'' : 128 + l.val - 128 < 128 := by omega
      simp only [hG, dif_pos h, row_eq, dif_neg h', dif_pos h'']
      simp only [Nat.add_sub_cancel_left, Fin.eta]
    have e3 : G (128 + 128 + l.val) = on ((tri (lane E i l) 16).2.2 ≤ v) := by
      have h : 128 + 128 + l.val < 384 := by omega
      have h' : ¬ (128 + 128 + l.val < 128) := by omega
      have h'' : ¬ (128 + 128 + l.val - 128 < 128) := by omega
      simp only [hG, dif_pos h, row_eq, dif_neg h', dif_neg h'']
      have : ∀ (z : ℕ) (hz : z < 128), z = l.val → (⟨z, hz⟩ : Fin 128) = l := fun z hz e => Fin.ext e
      rw [this _ _ (by omega)]
    rw [e1, e2, e3]
  have h2 : count (fun j : Fin 2048 => E (ix2 i j)) v = ∑ l : Fin 128, ∑ k ∈ Finset.range 16, on (lane E i l k ≤ v) := by
    set H : ℕ → ℕ := fun j => if h : j < 2048 then on (E (ix2 i ⟨j, h⟩) ≤ v) else 0 with hH
    have h0 : count (fun j : Fin 2048 => E (ix2 i j)) v = ∑ j ∈ Finset.range (128 * 16), H j := by
      rw [Finset.sum_range]
      unfold Nearest.count
      refine Finset.sum_congr rfl fun j _ => ?_
      have hj : j.val < 2048 := j.isLt
      simp [hH, hj]
    rw [h0, sum_runs, Finset.sum_comm, Finset.sum_range]
    refine Finset.sum_congr rfl fun l _ => Finset.sum_congr rfl fun k hk => ?_
    have hk' := Finset.mem_range.mp hk
    have hl := l.isLt
    have h : 128 * k + l.val < 2048 := by omega
    simp only [hH, dif_pos h, lane]
  rw [h1, h2]
  exact lanes_count 16 (fun l => lane E i l) v hv

/-! ### The call's values, for a row -/

section
variable (E : FVec Ideal S1024x2048 .f32) (i : Fin 1024)

/-- The least, the next and the one after, of a row's candidates. -/
def m1 : EReal := least (row E i)
def m2 : EReal := least (above (row E i) (m1 E i))
def m3 : EReal := least (above (above (row E i) (m1 E i)) (m2 E i))

/-- A family's count, as a sum of ones and zeros. -/
theorem sum_ones {ι : Type*} [Fintype ι] (e : ι → EReal) (v : EReal) :
    ∑ j, (if e j ≤ v then (1 : EReal) else 0) = (((count e v : ℕ) : ℝ) : EReal) := by
  have h : ∀ s : Finset ι, ∑ j ∈ s, (if e j ≤ v then (1 : EReal) else 0) = (((∑ j ∈ s, on (e j ≤ v) : ℕ) : ℝ) : EReal) := by
    classical
    intro s
    induction s using Finset.induction_on with
    | empty => simp
    | insert a s ha ih =>
      rw [Finset.sum_insert ha, Finset.sum_insert ha, ih, Nat.cast_add, EReal.coe_add]
      congr 1
      by_cases hj : e a ≤ v
      · rw [if_pos hj, on_true hj]; norm_num
      · rw [if_neg hj, on_false hj]; norm_num
  exact h Finset.univ

theorem v65 : k1_pay65 E (pb E 13) (pc E 13) (pa E 14) (ha E 13) (pb E 14) (ix2 i 0) = m1 E i := by
  generalize hr : m1 E i = r
  pointwise [k1_pay65]
  rw [← hr, p64, Words.inf]
  rfl

theorem v66 (j : Fin 384) : k1_pay66 E (pb E 13) (pc E 13) (pa E 14) (ha E 13) (pb E 14) (ix2 i j) = above (row E i) (m1 E i) j := by
  generalize hr : above (row E i) (m1 E i) j = r
  pointwise [k1_pay66]
  rw [v65, p64, Words.inf, ← hr]
  rfl

theorem v67 : k1_pay67 E (pb E 13) (pc E 13) (pa E 14) (ha E 13) (pb E 14) (ix2 i 0) = m2 E i := by
  generalize hr : m2 E i = r
  pointwise [k1_pay67]
  simp only [v66, Words.inf]
  exact hr

theorem v68 : k1_pay68 E (pb E 13) (pc E 13) (pa E 14) (ha E 13) (pb E 14) (ix2 i 0)
    = (((count (above (row E i) (m1 E i)) (m2 E i) : ℕ) : ℝ) : EReal) := by
  generalize hr : (((count (above (row E i) (m1 E i)) (m2 E i) : ℕ) : ℝ) : EReal) = r
  pointwise [k1_pay68]
  simp only [v66, v67]
  rw [← hr, ← sum_ones]

theorem v69 : k1_pay69 E (pb E 13) (pc E 13) (pa E 14) (ha E 13) (pb E 14) (ix2 i 0) = m3 E i := by
  generalize hr : m3 E i = r
  pointwise [k1_pay69]
  simp only [v66, v67, Words.inf]
  exact hr

theorem v70 : k1_pay70 E (pb E 13) (pc E 13) (pa E 14) (ha E 13) (pb E 14) (ix2 i 0)
    = (((min (count (row E i) (m1 E i)) 3 : ℕ) : ℝ) : EReal) := by
  generalize hr : (((min (count (row E i) (m1 E i)) 3 : ℕ) : ℝ) : EReal) = r
  pointwise [k1_pay70]
  simp only [v65, p64]
  rw [← hr]
  have := sum_ones (row E i) (m1 E i)
  unfold row at this ⊢
  rw [this, Words.three, Nat.cast_min, coe_min]
  norm_cast

theorem v71 : k1_pay71 E (pb E 13) (pc E 13) (pa E 14) (ha E 13) (pb E 14) (ix2 i 0)
    = ((3 - ((min (count (row E i) (m1 E i)) 3 : ℕ) : ℝ) : ℝ) : EReal) := by
  generalize hr : ((3 - ((min (count (row E i) (m1 E i)) 3 : ℕ) : ℝ) : ℝ) : EReal) = r
  pointwise [k1_pay71]
  rw [v70, Words.three, ← EReal.coe_sub, ← hr]

end

/-- The root of the distance, moved by `q` and never below zero; a number that is missing counts as zero. -/
def root (q : ℝ) (u : EReal) : ℝ := √(max ((if u < ⊤ then u.toReal else 0) + q) 0)

theorem sqrt_max (x q : ℝ) : Ideal.sqrt (max (((x : ℝ) : EReal) + ((q : ℝ) : EReal)) 0) = ((√(max (x + q) 0) : ℝ) : EReal) := by
  rw [← EReal.coe_add, ← EReal.coe_zero, ← coe_max, Ideal.sqrt_coe, if_neg (le_max_right _ _).not_gt]

theorem root_some (q : ℝ) (u : EReal) (hu : u ≠ ⊥) :
    Ideal.sqrt (max ((if u < ⊤ then u else 0) + ((q : ℝ) : EReal)) 0) = ((root q u : ℝ) : EReal) := by
  unfold root
  by_cases h : u < ⊤
  · rw [if_pos h, if_pos h, ← sqrt_max, EReal.coe_toReal h.ne hu]
  · rw [if_neg h, if_neg h, ← sqrt_max, EReal.coe_zero]

theorem least_ne_bot {ι : Type*} [Fintype ι] (e : ι → EReal) (h : ∀ i, e i ≠ ⊥) : least e ≠ ⊥ := by
  intro hb
  obtain ⟨i, hi⟩ := least_mem e (by rw [hb]; exact bot_lt_top)
  exact h i (hi.trans hb)

theorem cast_rest (c k : ℕ) (hk : k ≤ 3) : min ((c : ℝ) : EReal) ((3 - (k : ℝ) : ℝ) : EReal) = (((min c (3 - k) : ℕ) : ℝ) : EReal) := by
  rw [Nat.cast_min, coe_min, Nat.cast_sub hk]
  norm_num

/-- The last sum, with its terms real. -/
theorem last_sum (a b c k₁ k₂ : ℝ) :
    (1 : EReal) - (((k₁ : ℝ) : EReal) * ((a : ℝ) : EReal) + ((k₂ : ℝ) : EReal) * ((b : ℝ) : EReal)
        + (((3 - k₁ : ℝ) : EReal) - ((k₂ : ℝ) : EReal)) * ((c : ℝ) : EReal)) * ((1 / 3 : ℝ) : EReal)
      = ((1 - (k₁ * a + k₂ * b + (3 - k₁ - k₂) * c) * (1 / 3) : ℝ) : EReal) := by
  simp only [← EReal.coe_one, ← EReal.coe_mul, ← EReal.coe_add, ← EReal.coe_sub]

/-- The score of a query whose row of distances is real. -/
theorem score (E : FVec Ideal S1024x2048 .f32) (i : Fin 1024) (e : Fin 2048 → ℝ) (he : ∀ j, E (ix2 i j) = ((e j : ℝ) : EReal))
    (Q : FVec Ideal S1024x1 .f32) (q : ℝ) (hQ : Q (ix2 i 0) = ((q : ℝ) : EReal)) (x₁ x₂ x₃ : ℝ)
    (hx : Least (fun j => ((e j : ℝ) : EReal)) x₁ x₂ x₃) :
    k1_pay1 Q (k1_pay65 E (pb E 13) (pc E 13) (pa E 14) (ha E 13) (pb E 14)) (k1_pay67 E (pb E 13) (pc E 13) (pa E 14) (ha E 13) (pb E 14))
        (k1_pay68 E (pb E 13) (pc E 13) (pa E 14) (ha E 13) (pb E 14)) (k1_pay69 E (pb E 13) (pc E 13) (pa E 14) (ha E 13) (pb E 14))
        (k1_pay70 E (pb E 13) (pc E 13) (pa E 14) (ha E 13) (pb E 14)) (k1_pay71 E (pb E 13) (pc E 13) (pa E 14) (ha E 13) (pb E 14)) (ix2 i 0)
      = ((1 - (√(max (x₁ + q) 0) + √(max (x₂ + q) 0) + √(max (x₃ + q) 0)) * (1 / 3) : ℝ) : EReal) := by
  have hrow : Least (row E i) x₁ x₂ x₃ := ⟨hx.le12, hx.le23, fun v => by
    rw [hx.count v, row_count E i _ (EReal.coe_ne_top _)]
    simp only [he]⟩
  have b0 : ∀ j, row E i j ≠ ⊥ := fun j => not_bot hrow j
  have b1 : ∀ j, above (row E i) (m1 E i) j ≠ ⊥ := fun j => by unfold above; split_ifs; all_goals first | exact b0 j | exact top_ne_bot
  have b2 : ∀ j, above (above (row E i) (m1 E i)) (m2 E i) j ≠ ⊥ := fun j => by unfold above; split_ifs; all_goals first | exact b0 j | exact top_ne_bot
  have e1 : m1 E i = ((x₁ : ℝ) : EReal) := least_eq hrow
  have hm1 : Ideal.sqrt (max (m1 E i + ((q : ℝ) : EReal)) 0) = ((root q (m1 E i) : ℝ) : EReal) := by
    rw [← root_some q (m1 E i) (least_ne_bot _ b0), if_pos (by rw [e1]; exact EReal.coe_lt_top _)]
  have hm2 := root_some q (m2 E i) (least_ne_bot _ b1)
  have hm3 := root_some q (m3 E i) (least_ne_bot _ b2)
  obtain ⟨hk, hw⟩ := weighted hrow (root q) (m1 E i) (m2 E i) (m3 E i) rfl rfl rfl
    (min (Nearest.count (row E i) (m1 E i)) 3)
    (min (Nearest.count (above (row E i) (m1 E i)) (m2 E i)) (3 - min (Nearest.count (row E i) (m1 E i)) 3)) rfl rfl
  have hr : ∀ x : ℝ, root q ((x : ℝ) : EReal) = √(max (x + q) 0) := fun x => by
    unfold root; rw [if_pos (EReal.coe_lt_top x), EReal.toReal_coe]
  rw [hr, hr, hr] at hw
  have third : Named.named (F := Ideal) Cert.KernelIdeal.κ "third" (φ := .f32) 0x3EAAAAAB#32 = ((1 / 3 : ℝ) : EReal) :=
    IdealRules.named_const.ideal_named_scalar _ _ _ _ rfl
  generalize hR : ((1 - (√(max (x₁ + q) 0) + √(max (x₂ + q) 0) + √(max (x₃ + q) 0)) * (1 / 3) : ℝ) : EReal) = R
  pointwise [k1_pay1]
  rw [v65, v67, v68, v69, v70, v71, hQ, Words.inf, hm1, hm2, hm3, Words.three, third, ← hR, ← hw]
  rw [cast_rest _ _ (min_le_right _ _)]
  exact last_sum _ _ _ _ _

/-- The nearest-neighbour call's output for a block, in these terms. -/
theorem out_eq (x0 : Vec Ideal S1024x512 .f32) (x1 : Vec Ideal S512x512 .f32) (x2 : Vec Ideal S2048x512 .f32) (x3 : Vec Ideal S1x2048 .f32) :
    out1_4 x0 x1 x2 x3 =
      (let E := k1_pay4 x0 x1 x2 x3
       k1_pay1 (k1_pay3 x0 x1) (k1_pay65 E (pb E 13) (pc E 13) (pa E 14) (ha E 13) (pb E 14)) (k1_pay67 E (pb E 13) (pc E 13) (pa E 14) (ha E 13) (pb E 14))
        (k1_pay68 E (pb E 13) (pc E 13) (pa E 14) (ha E 13) (pb E 14)) (k1_pay69 E (pb E 13) (pc E 13) (pa E 14) (ha E 13) (pb E 14))
        (k1_pay70 E (pb E 13) (pc E 13) (pa E 14) (ha E 13) (pb E 14)) (k1_pay71 E (pb E 13) (pc E 13) (pa E 14) (ha E 13) (pb E 14))) := by
  have hz : (![0, 0] : Fin 2 → ℕ) = fun _ => 0 := funext fun a => by fin_cases a <;> rfl
  have l0 : View.ld x0 r1_0 = x0 := View.ld_unit_zero (S := S1024x512) hz _ _
  have l1 : View.ld x1 r1_1 = x1 := View.ld_unit_zero (S := S512x512) hz _ _
  have l2 : View.ld x2 r1_2 = x2 := View.ld_unit_zero (S := S2048x512) hz _ _
  have l3 : View.ld x3 r1_3 = x3 := View.ld_unit_zero (S := S1x2048) hz _ _
  unfold_out out1_4
  rw [l0, l1, l2, l3, p17, p18, p20, p21, p22, p58, p59, p61, p62, p63]
  rw [View.canon_unit_zero (S := S1024x1) hz]

end Cert.KernelIdeal.Knn

end
-- ==== Proof.KernelIn.lean ====
module

public import proofs.«01_k».proof.Proof.Unit
public import proofs.«01_k».proof.Proof.Pairs
public import proofs.«01_k».proof.Proof.TrainSteps
public import proofs.«01_k».proof.Proof.KnnValue
public import Idealize.ShloMosaic.Lib.WordCmp

/-!
What the kernel's training starts from, and the score of a query, on the reals.
-/

@[expose] public section

noncomputable section

namespace Cert.KernelIdeal.Train

open Idealize.ShloMosaic
open Cert.KernelIdeal Cert.KernelIdeal.Gen Cert.Nearest

theorem pay2_at (x : FVec Ideal S2048x512 .f32) (i : Fin 2048) (j : Fin 512) :
    k0_pay2 x (ix2 i j) = x (ix2 i j) * Ideal.rsqrt (∑ k, x (ix2 i k) * x (ix2 i k)) := by
  generalize hr : x (ix2 i j) * Ideal.rsqrt (∑ k, x (ix2 i k) * x (ix2 i k)) = r
  pointwise [k0_pay2]
  exact hr

theorem pay2_up (X : Fin 2048 → Fin 512 → ℝ) : k0_pay2 (F := Ideal) (up2 X) = up2 (unit X) := by
  refine eq_up2 fun i j => ?_
  rw [pay2_at]
  simp only [up2_ix2, ← EReal.coe_mul, coe_sum]
  exact rsqrt_unit X i j

/-- The labels as a column. -/
theorem lab_at (y : IVec S2048 32) (i : Fin 2048) : shapeCast S2048x1 y shapeCasts_S2048_S2048x1 (ix2 i 0) = y (ix1 i) := by
  generalize hr : y (ix1 i) = r
  pointwise
  exact hr

theorem pay3_up (y : IVec S2048x1 32) (l : Fin 2048 → Fin 64) (hl : ∀ i, y (ix2 i 0) = BitVec.ofNat 32 (l i)) :
    k0_pay3 (F := Ideal) y = up2 (Loss.oh l) := by
  refine eq_up2 fun i c => ?_
  pointwise [k0_pay3]
  rw [hl, WordCmp.cmpi_eq_ofNat (by omega) (by omega)]
  unfold Loss.oh
  by_cases h : l i = c
  · subst h
    simp [Scalar.select]
  · have h' : ¬ (l i : ℕ) = c := fun e => h (Fin.ext e)
    simp [Scalar.select, h, h']

theorem pay4_at (y : IVec S2048x1 32) (o : FVec Ideal S2048x64 .f32) (ho : k0_pay3 (F := Ideal) y = o) :
    k0_pay4 (F := Ideal) y = Ideal.div (Ideal.ofBits .f32 0x40000000#32)
      (Ideal.ofBits .f32 0x45000000#32 * Ideal.ofBits .f32 0x45000000#32
        - Ideal.ofBits .f32 0x40000000#32 * (∑ c, (∑ i, o (ix2 i c)) * (∑ i, o (ix2 i c))) + Ideal.ofBits .f32 0x45000000#32) := by
  generalize hr : Ideal.div (Ideal.ofBits .f32 0x40000000#32)
      (Ideal.ofBits .f32 0x45000000#32 * Ideal.ofBits .f32 0x45000000#32
        - Ideal.ofBits .f32 0x40000000#32 * (∑ c, (∑ i, o (ix2 i c)) * (∑ i, o (ix2 i c))) + Ideal.ofBits .f32 0x45000000#32) = r
  unfold k0_pay4
  rw [ho]
  pointwise
  simp only [Finset.univ_unique, Finset.sum_singleton]
  exact hr

theorem pay4_up (y : IVec S2048x1 32) (l : Fin 2048 → Fin 64) (hl : ∀ i, y (ix2 i 0) = BitVec.ofNat 32 (l i)) (ht : Loss.total l ≠ 0) :
    k0_pay4 (F := Ideal) y = ((1 / Loss.total l : ℝ) : EReal) := by
  have h := Loss.two_total l
  rw [pay4_at y _ (pay3_up y l hl)]
  simp only [up2_ix2, coe_sum, ← EReal.coe_mul, Words.two, Words.n2048, ← EReal.coe_sub, ← EReal.coe_add]
  have h2 : (2048 : ℝ) * 2048 - 2 * (∑ c, (∑ i, Loss.oh l i c) * (∑ i, Loss.oh l i c)) + 2048 = 2 * Loss.total l := by
    rw [h]; norm_num
  rw [h2, coe_div (mul_ne_zero two_ne_zero ht), div_mul_eq_div_div, div_self two_ne_zero]

/-- What stays the same through the training, on the reals. -/
theorem args_up (X : Fin 2048 → Fin 512 → ℝ) (y : IVec S2048x1 32) (l : Fin 2048 → Fin 64)
    (hl : ∀ i, y (ix2 i 0) = BitVec.ofNat 32 (l i)) (ht : Loss.total l ≠ 0) :
    args (F := Ideal) (up2 X) y = argsR (unit X) l (1 / Loss.total l) := by
  unfold args argsR
  rw [pay2_up, pay3_up y l hl, pay4_up y l hl ht]

end Cert.KernelIdeal.Train

namespace Cert.KernelIdeal.Knn

open Idealize.ShloMosaic
open Cert.KernelIdeal Cert.KernelIdeal.Gen Cert.Nearest

theorem neg_two (W : Fin 512 → Fin 512 → ℝ) :
    mulf (broadcast S512x512 (Scalar.ofBits (F := Ideal) .f32 0xC0000000#32)) (up2 W) = up2 (fun a b => -2 * W a b) := by
  refine eq_up2 fun i j => ?_
  generalize hw : up2 W = w
  have h : w (ix2 i j) = ((W i j : ℝ) : EReal) := by rw [← hw, up2_ix2]
  pointwise
  rw [h, Words.negTwo, ← EReal.coe_mul]

theorem pay2_at (q : FVec Ideal S1024x512 .f32) (w : FVec Ideal S512x512 .f32) (i : Fin 1024) (j : Fin 512) :
    k1_pay2 q w (ix2 i j) = ∑ x, q (ix2 i x) * Ideal.rsqrt (∑ x, q (ix2 i x) * q (ix2 i x)) * w (ix2 j x) := by
  generalize hr : ∑ x, q (ix2 i x) * Ideal.rsqrt (∑ x, q (ix2 i x) * q (ix2 i x)) * w (ix2 j x) = r
  pointwise [k1_pay2]
  exact hr

theorem pay3_at (q : FVec Ideal S1024x512 .f32) (w : FVec Ideal S512x512 .f32) (i : Fin 1024) (p : FVec Ideal S1024x512 .f32) (hp : k1_pay2 q w = p) :
    k1_pay3 q w (ix2 i 0) = Ideal.ofBits .f32 0x3E800000#32 * ∑ x, p (ix2 i x) * p (ix2 i x) := by
  generalize hr : Ideal.ofBits .f32 0x3E800000#32 * ∑ x, p (ix2 i x) * p (ix2 i x) = r
  unfold k1_pay3
  rw [hp]
  pointwise
  exact hr

theorem pay4_at (q : FVec Ideal S1024x512 .f32) (w : FVec Ideal S512x512 .f32) (b : FVec Ideal S2048x512 .f32) (s : FVec Ideal S1x2048 .f32)
    (i : Fin 1024) (j : Fin 2048) (p : FVec Ideal S1024x512 .f32) (hp : k1_pay2 q w = p) :
    k1_pay4 q w b s (ix2 i j) = s (ix2 0 j) + ∑ x, p (ix2 i x) * b (ix2 j x) := by
  generalize hr : s (ix2 0 j) + ∑ x, p (ix2 i x) * b (ix2 j x) = r
  unfold k1_pay4
  rw [hp]
  pointwise
  exact hr

theorem len_at (b : FVec Ideal S2048x512 .f32) (j : Fin 2048) :
    shapeCast S1x2048 (k0_pay1 b) shapeCasts_S2048x1_S1x2048 (ix2 0 j) = ∑ x, b (ix2 j x) * b (ix2 j x) := by
  generalize hr : ∑ x, b (ix2 j x) * b (ix2 j x) = r
  pointwise [k0_pay1]
  exact hr

section
variable (Q : Fin 1024 → Fin 512 → ℝ) (W : Fin 512 → Fin 512 → ℝ) (S : Fin 2048 → Fin 512 → ℝ)

theorem pay2_up : k1_pay2 (F := Ideal) (up2 Q) (up2 fun a b => -2 * W a b) = up2 (fun i a => -2 * Loss.z (unit Q) W i a) := by
  refine eq_up2 fun i j => ?_
  rw [pay2_at]
  simp only [up2_ix2, ← EReal.coe_mul, coe_sum]
  simp only [rsqrt_unit, ← EReal.coe_mul, coe_sum, Loss.z]
  congr 1
  rw [Finset.mul_sum]
  exact Finset.sum_congr rfl fun _ _ => by ring

/-- The score of a query of a block. -/
theorem score_up (i : Fin 1024) (x₁ x₂ x₃ : ℝ)
    (hx : Least (fun j => (((∑ x, Loss.z S W j x * Loss.z S W j x) + ∑ x, -2 * Loss.z (unit Q) W i x * Loss.z S W j x : ℝ) : EReal)) x₁ x₂ x₃) :
    out1_4 (F := Ideal) (up2 Q) (up2 fun a b => -2 * W a b) (up2 (Loss.z S W))
        (shapeCast S1x2048 (k0_pay1 (up2 (Loss.z S W))) shapeCasts_S2048x1_S1x2048) (ix2 i 0)
      = ((1 - (√(max (x₁ + Loss.sq (unit Q) W i) 0) + √(max (x₂ + Loss.sq (unit Q) W i) 0) + √(max (x₃ + Loss.sq (unit Q) W i) 0)) * (1 / 3) : ℝ) : EReal) := by
  rw [out_eq]
  refine score _ i _ (fun j => ?_) _ _ ?_ x₁ x₂ x₃ hx
  · rw [pay4_at _ _ _ _ _ _ _ (pay2_up Q W), len_at]
    simp only [up2_ix2, ← EReal.coe_mul, coe_sum, ← EReal.coe_add]
  · rw [pay3_at _ _ _ _ (pay2_up Q W)]
    simp only [up2_ix2, ← EReal.coe_mul, coe_sum, Words.quarter, Loss.sq]
    congr 1
    rw [Finset.mul_sum]
    exact Finset.sum_congr rfl fun _ _ => by ring

end

end Cert.KernelIdeal.Knn

end
-- ==== Proof.KernelOut.lean ====
module

public import proofs.«01_k».proof.Proof.ReadTrain
public import proofs.«01_k».proof.Proof.KnnValue
public import Idealize.ShloMosaic.Lib.Pipeline.ValueKit.Geometry

/-!
What the kernel program's result is, as a function of its arguments.
-/

@[expose] public section

set_option maxRecDepth 16384

noncomputable section

namespace Cert.KernelIdeal.Whole

open Idealize.ShloMosaic Idealize.ShloMosaic.TcCoe Idealize.ShloMosaic.Tactic
open Cert.KernelIdeal Cert.KernelIdeal.Gen Cert.KernelIdeal.Train
open Idealize.ShloMosaic.Pipeline

variable {F : FTy → Type} [FloatOps F] [Named F]
variable (m : (ℓ : Loc nD τ sig) → Buf (Elt F) ℓ) (ρ : Dev nD → PrngReg) (c : Dev nD)

/-- The support rows. -/
abbrev sup : FVec F S2048x512 .f32 := m ((c : Thread nD τ).loc main_arg0)
/-- The labels as a column. -/
abbrev lab : IVec S2048x1 32 := shapeCast S2048x1 (m ((c : Thread nD τ).loc main_arg1)) shapeCasts_S2048_S2048x1
/-- The query rows. -/
abbrev qry : FVec F S4096x512 .f32 := m ((c : Thread nD τ).loc main_arg2)

theorem v1_v0 : V1 m ρ c main_v0 = lab m c := by
  rfl

/-! Each block of a window that takes its whole array is that array. -/

theorem emb0_0 (t : Fin cfg0.N) (y) : ((win0_0.blk t).view.emb y) = y := by
  refine Shape.idx_ext₂ ?_ ?_
  · blk_simp; fin_cases t <;> first | exact Nat.zero_add _ | rfl
  · blk_simp; fin_cases t <;> first | exact Nat.zero_add _ | rfl

theorem emb0_1 (t : Fin cfg0.N) (y) : ((win0_1.blk t).view.emb y) = y := by
  refine Shape.idx_ext₂ ?_ ?_
  · blk_simp; fin_cases t <;> first | exact Nat.zero_add _ | rfl
  · blk_simp; fin_cases t <;> first | exact Nat.zero_add _ | rfl

theorem emb0_2 (t : Fin cfg0.N) (y) : ((win0_2.blk t).view.emb y) = y := by
  refine Shape.idx_ext₂ ?_ ?_
  · blk_simp; fin_cases t <;> first | exact Nat.zero_add _ | rfl
  · blk_simp; fin_cases t <;> first | exact Nat.zero_add _ | rfl

theorem emb0_3 (t : Fin cfg0.N) (y) : ((win0_3.blk t).view.emb y) = y := by
  refine Shape.idx_ext₂ ?_ ?_
  · blk_simp; fin_cases t <;> first | exact Nat.zero_add _ | rfl
  · blk_simp; fin_cases t <;> first | exact Nat.zero_add _ | rfl

theorem emb0_4 (t : Fin cfg0.N) (y) : ((win0_4.blk t).view.emb y) = y := by
  refine Shape.idx_ext₂ ?_ ?_
  · blk_simp; fin_cases t <;> first | exact Nat.zero_add _ | rfl
  · blk_simp; fin_cases t <;> first | exact Nat.zero_add _ | rfl

theorem emb0_5 (t : Fin cfg0.N) (y) : ((win0_5.blk t).view.emb y) = y := by
  refine Shape.idx_ext₂ ?_ ?_
  · blk_simp; fin_cases t <;> first | exact Nat.zero_add _ | rfl
  · blk_simp; fin_cases t <;> first | exact Nat.zero_add _ | rfl

theorem emb1_1 (t : Fin cfg1.N) (y) : ((win1_1.blk t).view.emb y) = y := by
  refine Shape.idx_ext₂ ?_ ?_
  · blk_simp; fin_cases t <;> first | exact Nat.zero_add _ | rfl
  · blk_simp; fin_cases t <;> first | exact Nat.zero_add _ | rfl

theorem emb1_2 (t : Fin cfg1.N) (y) : ((win1_2.blk t).view.emb y) = y := by
  refine Shape.idx_ext₂ ?_ ?_
  · blk_simp; fin_cases t <;> first | exact Nat.zero_add _ | rfl
  · blk_simp; fin_cases t <;> first | exact Nat.zero_add _ | rfl

theorem emb1_3 (t : Fin cfg1.N) (y) : ((win1_3.blk t).view.emb y) = y := by
  refine Shape.idx_ext₂ ?_ ?_
  · blk_simp; fin_cases t <;> first | exact Nat.zero_add _ | rfl
  · blk_simp; fin_cases t <;> first | exact Nat.zero_add _ | rfl

theorem emb1_0 (t : Fin cfg1.N) (i : Fin 1024) (j : Fin 512) :
    (win1_0.blk t).view.emb (ix2 i j) = ix2 ⟨t.val * 1024 + i.val, by have := t.isLt; have : cfg1.N = 4 := by decide +kernel
                                                                      omega⟩ j := by
  refine Shape.idx_ext₂ ?_ ?_
  · blk_simp; fin_cases t <;> rfl
  · blk_simp; fin_cases t <;> first | exact Nat.zero_add _ | rfl

theorem emb1_4 (t : Fin cfg1.N) (i : Fin 1024) (j : Fin 1) :
    (win1_4.blk t).view.emb (ix2 i j) = ix2 ⟨t.val * 1024 + i.val, by have := t.isLt; have : cfg1.N = 4 := by decide +kernel
                                                                      omega⟩ j := by
  refine Shape.idx_ext₂ ?_ ?_
  · blk_simp; fin_cases t <;> rfl
  · blk_simp; fin_cases t <;> first | exact Nat.zero_add _ | rfl

theorem blk0_0 (t : Fin cfg0.N) : iblk0 (V1 m ρ) c 0 t = sup m c := by
  funext y
  unfold iblk0
  blk_simp
  exact congrArg (V1 m ρ c main_arg0) (emb0_0 t y)

theorem blk0_1 (t : Fin cfg0.N) : iblk0 (V1 m ρ) c 1 t = lab m c := by
  funext y
  unfold iblk0
  blk_simp
  exact congrArg (V1 m ρ c main_v0) (emb0_1 t y)

/-- What the training call leaves for the nearest-neighbour call. -/
abbrev trained : State F := st (args (sup m c) (lab m c)) 10

theorem w2_v1_1 : W2 m ρ c (Proc.devRef .tc main_v1_1) = mulf (broadcast S512x512 (Scalar.ofBits .f32 0xC0000000#32)) (trained m c).w := by
  refine (W2_arr m ρ c 3).trans ?_
  refine (dat0 (V1 m ρ) c).arrAt_eq_of_covers 3 _ (by decide +kernel) fun t hf y => ?_
  blk_simp
  rw [after0_3]
  unfold outsAt0
  rw [blk0_0, blk0_1]
  dsimp only
  rw [out3, emb0_3 t y]

theorem w2_v1_2 : W2 m ρ c (Proc.devRef .tc main_v1_2) = z (args (sup m c) (lab m c)) (trained m c).w := by
  refine (W2_arr m ρ c 4).trans ?_
  refine (dat0 (V1 m ρ) c).arrAt_eq_of_covers 4 _ (by decide +kernel) fun t hf y => ?_
  blk_simp
  rw [after0_4]
  unfold outsAt0
  rw [blk0_0, blk0_1]
  dsimp only
  rw [out4, emb0_4 t y]

theorem w2_v1_3 : W2 m ρ c (Proc.devRef .tc main_v1_3) = k0_pay1 (z (args (sup m c) (lab m c)) (trained m c).w) := by
  refine (W2_arr m ρ c 5).trans ?_
  refine (dat0 (V1 m ρ) c).arrAt_eq_of_covers 5 _ (by decide +kernel) fun t hf y => ?_
  blk_simp
  rw [after0_5]
  unfold outsAt0
  rw [blk0_0, blk0_1]
  dsimp only
  rw [out5, emb0_5 t y]

theorem w3_v1_1 : W3 m ρ c (Proc.devRef .tc main_v1_1) = mulf (broadcast S512x512 (Scalar.ofBits .f32 0xC0000000#32)) (trained m c).w :=
  (W3_of m ρ c main_v1_1 (by decide)).trans (w2_v1_1 m ρ c)

theorem w3_v1_2 : W3 m ρ c (Proc.devRef .tc main_v1_2) = z (args (sup m c) (lab m c)) (trained m c).w :=
  (W3_of m ρ c main_v1_2 (by decide)).trans (w2_v1_2 m ρ c)

theorem w3_v2 : W3 m ρ c (Proc.devRef .tc main_v2)
    = shapeCast S1x2048 (k0_pay1 (z (args (sup m c) (lab m c)) (trained m c).w)) shapeCasts_S2048x1_S1x2048 := by
  rw [← w2_v1_3 m ρ c]
  rfl

theorem blk1_1 (t : Fin cfg1.N) : iblk1 (V3 m ρ) c 1 t = mulf (broadcast S512x512 (Scalar.ofBits .f32 0xC0000000#32)) (trained m c).w := by
  rw [← w3_v1_1 m ρ c]
  funext y
  unfold iblk1
  blk_simp
  exact congrArg (V3 m ρ c main_v1_1) (emb1_1 t y)

theorem blk1_2 (t : Fin cfg1.N) : iblk1 (V3 m ρ) c 2 t = z (args (sup m c) (lab m c)) (trained m c).w := by
  rw [← w3_v1_2 m ρ c]
  funext y
  unfold iblk1
  blk_simp
  exact congrArg (V3 m ρ c main_v1_2) (emb1_2 t y)

theorem blk1_3 (t : Fin cfg1.N) : iblk1 (V3 m ρ) c 3 t
    = shapeCast S1x2048 (k0_pay1 (z (args (sup m c) (lab m c)) (trained m c).w)) shapeCasts_S2048x1_S1x2048 := by
  rw [← w3_v2 m ρ c]
  funext y
  unfold iblk1
  blk_simp
  exact congrArg (V3 m ρ c main_v2) (emb1_3 t y)

theorem blk1_0 (t : Fin cfg1.N) (i : Fin 1024) (j : Fin 512) (h) :
    iblk1 (V3 m ρ) c 0 t (ix2 i j) = qry m c (ix2 ⟨t.val * 1024 + i.val, h⟩ j) := by
  unfold iblk1
  blk_simp
  exact (congrArg (V3 m ρ c main_arg2) (emb1_0 t i j)).trans (congrFun (W3_args m ρ c main_arg2 (by decide)) _)

/-- The result of the program is `G`, given that each block of the nearest-neighbour call is `G`'s. -/
theorem w5_v4 (G : Fin 4096 → Elt F .f32)
    (hG : ∀ (X : FVec F S1024x512 .f32) (t : ℕ) (i : Fin 1024) (h : ∀ i : Fin 1024, t * 1024 + i.val < 4096),
      (∀ i j, X (ix2 i j) = qry m c (ix2 ⟨t * 1024 + i.val, h i⟩ j)) →
      out1_4 X (mulf (broadcast S512x512 (Scalar.ofBits .f32 0xC0000000#32)) (trained m c).w) (z (args (sup m c) (lab m c)) (trained m c).w)
        (shapeCast S1x2048 (k0_pay1 (z (args (sup m c) (lab m c)) (trained m c).w)) shapeCasts_S2048x1_S1x2048) (ix2 i 0) = G ⟨t * 1024 + i.val, h i⟩)
    : W5 m ρ c (Proc.devRef .tc main_v4) = fun j => G (j 0) := by
  have h4 : W4 m ρ c (Proc.devRef .tc main_v3) = fun j : S4096x1.Idx => G (j 0) := by
    refine (W4_arr m ρ c 4).trans ?_
    refine (dat1 (V3 m ρ) c).arrAt_eq_of_covers 4 _ (by decide +kernel) fun t hf y => ?_
    blk_simp
    rw [after1_4]
    rw [blk1_1, blk1_2, blk1_3]
    obtain ⟨i, j, rfl⟩ : ∃ (i : Fin 1024) (j : Fin 1), y = ix2 i j := ⟨y 0, y 1, eq_ix2 y⟩
    rw [emb1_4]
    obtain rfl : j = 0 := Subsingleton.elim _ _
    have hb : ∀ i : Fin 1024, t.val * 1024 + i.val < 4096 := fun i => by
      have h1 := t.isLt
      have h2 : cfg1.N = 4 := by decide +kernel
      have h3 : cfg1.grid.N = 4 := h2
      omega
    exact hG _ t.val i hb fun i j => blk1_0 m ρ c t i j (hb i)
  have h5 : W5 m ρ c (Proc.devRef .tc main_v4) = shapeCast S4096 (W4 m ρ c (Proc.devRef .tc main_v3)) shapeCasts_S4096x1_S4096 := by
    rfl
  rw [h5, h4]
  funext j
  refine (shapeCast_apply _ _ j (ix2 (j 0) 0) ?_).trans rfl
  rw [Shape.rowMajor_val_two, Shape.rowMajor_val_one]
  show (j 0).val * 1 + 0 = (j 0).val
  omega

end Cert.KernelIdeal.Whole

end
-- ==== Proof.Same.lean ====
module

public import proofs.«01_k».proof.Proof.PreReal
public import proofs.«01_k».proof.Proof.RefOut
public import proofs.«01_k».proof.Proof.KernelIn
public import proofs.«01_k».proof.Proof.KernelOut

/-!
The two programs' results are one function of the inputs.
-/

@[expose] public section

noncomputable section

namespace Cert.Same

open Idealize.ShloMosaic Idealize.ShloMosaic.TcCoe Cert.Nearest

/-- The squared distance of a query row from a support row, less the square of the query row's length. -/
def rest (S : Fin 2048 → Fin 512 → ℝ) (Q : Fin 4096 → Fin 512 → ℝ) (W : Fin 512 → Fin 512 → ℝ) (i : Fin 4096) (j : Fin 2048) : ℝ :=
  (∑ x, Loss.z S W j x * Loss.z S W j x) + ∑ x, -2 * Loss.z Q W i x * Loss.z S W j x

/-- The three least of a query row's `rest`. -/
theorem exists_three (S : Fin 2048 → Fin 512 → ℝ) (Q : Fin 4096 → Fin 512 → ℝ) (W : Fin 512 → Fin 512 → ℝ) (i : Fin 4096) :
    ∃ x : ℝ × ℝ × ℝ, Least (fun j => ((rest S Q W i j : ℝ) : EReal)) x.1 x.2.1 x.2.2 := by
  obtain ⟨x₁, x₂, x₃, h⟩ := exists_least (by norm_num) (rest S Q W i)
  exact ⟨(x₁, x₂, x₃), h⟩

/-- The score of a query row. -/
def value (S : Fin 2048 → Fin 512 → ℝ) (Q : Fin 4096 → Fin 512 → ℝ) (W : Fin 512 → Fin 512 → ℝ) (i : Fin 4096) : ℝ :=
  let x := (exists_three S Q W i).choose
  1 - (√(max (x.1 + Loss.sq Q W i) 0) + √(max (x.2.1 + Loss.sq Q W i) 0) + √(max (x.2.2 + Loss.sq Q W i) 0)) * (1 / 3)

section reference
open Cert.ReferenceIdeal Cert.ReferenceIdeal.Knn

variable (X : Fin 2048 → Fin 512 → ℝ) (Q : Fin 4096 → Fin 512 → ℝ) (S : Fin 2048 → Fin 512 → ℝ) (W : Fin 512 → Fin 512 → ℝ)

theorem qn_up (h : ∀ i, √(∑ k, Q i k * Q i k) = 0 ∨ Words.tiny ≤ √(∑ k, Q i k * Q i k)) : qn (up2 Q) = up2 (unit Q) := by
  refine eq_up2 fun i j => ?_
  rw [qn_at, Words.tiny_eq]
  simp only [up2_ix2, ← EReal.coe_mul, coe_sum]
  rw [coe_sqrt (rows_nonneg Q i)]
  exact div_unit Q i j (h i)

theorem sn_up (h : ∀ i, Words.tiny ≤ √(∑ k, X i k * X i k)) : sn (up2 X) = up2 (unit X) := by
  refine eq_up2 fun i j => ?_
  rw [sn_at, Words.tiny_eq]
  simp only [up2_ix2, ← EReal.coe_mul, coe_sum]
  rw [coe_sqrt (rows_nonneg X i)]
  exact div_unit X i j (Or.inr (h i))

theorem dq_up : dq (up2 Q) (up2 W) = up2 (Loss.z Q W) := by
  refine eq_up2 fun i j => ?_
  rw [dq_at]
  simp only [up2_ix2, ← EReal.coe_mul, coe_sum, Loss.z]

theorem ds_up : ds (up2 S) (up2 W) = up2 (Loss.z S W) := by
  refine eq_up2 fun i j => ?_
  rw [ds_at]
  simp only [up2_ix2, ← EReal.coe_mul, coe_sum, Loss.z]

theorem d2_up : d2 (up2 (Loss.z Q W)) (up2 (Loss.z S W)) = up2 (fun i j => rest S Q W i j + Loss.sq Q W i) := by
  refine eq_up2 fun i j => ?_
  rw [d2_at]
  simp only [up2_ix2, ← EReal.coe_mul, coe_sum, Words.two, ← EReal.coe_add, ← EReal.coe_sub]
  congr 1
  unfold rest Loss.sq
  have : ∑ x, -2 * Loss.z Q W i x * Loss.z S W j x = -2 * ∑ x, Loss.z Q W i x * Loss.z S W j x := by
    rw [Finset.mul_sum]
    exact Finset.sum_congr rfl fun _ _ => mul_assoc _ _ _
  rw [this]
  ring

/-- The reference's score of a query row. -/
theorem reference_value (i : Fin 4096) :
    mean (top (near (d2 (dq (up2 Q) (up2 W)) (ds (up2 S) (up2 W))))) (ix1 i) = ((value S Q W i : ℝ) : EReal) := by
  rw [dq_up, ds_up, d2_up]
  exact Knn.score _ i _ _ _ ((exists_three S Q W i).choose_spec.shift (by norm_num) (Loss.sq Q W i))

end reference

section kernel
open Cert.KernelIdeal Cert.KernelIdeal.Gen Cert.KernelIdeal.Train Cert.KernelIdeal.Whole

variable (m : (ℓ : Loc nD τ sig) → Buf (Elt Ideal) ℓ) (ρ : Dev nD → PrngReg) (c : Dev nD)
variable {X : Fin 2048 → Fin 512 → ℝ} {l : Fin 2048 → Fin 64} {Q : Fin 4096 → Fin 512 → ℝ}

/-- The kernel's result. -/
theorem kernel_value (hx : sup m c = up2 X) (hl : ∀ i, lab m c (ix2 i 0) = BitVec.ofNat 32 (l i)) (hq : qry m c = up2 Q) (ht : Loss.total l ≠ 0)
    (hn : ∀ k, k < 10 → ∀ a, Words.tiny < √(Loss.sq (unit X) (stR l (1 / Loss.total l) (unit X) k).w a)) :
    W5 m ρ c (Proc.devRef .tc main_v4)
      = fun j => ((value (unit X) (unit Q) (stR l (1 / Loss.total l) (unit X) 10).w (j 0) : ℝ) : EReal) := by
  have ha : args (sup m c) (lab m c) = argsR (unit X) l (1 / Loss.total l) := by rw [hx]; exact args_up X _ l hl ht
  have hw : trained m c = upSt (stR l (1 / Loss.total l) (unit X) 10) := by
    unfold trained
    rw [ha]
    exact st_up (unit X) l _ 10 le_rfl fun k hk a => Real.sqrt_pos.mp (Words.tiny_pos.trans (hn k hk a))
  refine w5_v4 m ρ c (fun i => ((value (unit X) (unit Q) (stR l (1 / Loss.total l) (unit X) 10).w i : ℝ) : EReal)) fun B t i h hB => ?_
  have hB' : B = up2 (fun (i : Fin 1024) j => Q ⟨t * 1024 + i.val, h i⟩ j) := eq_up2 fun i j => by rw [hB, hq, up2_ix2]
  rw [hw, ha, hB']
  change out1_4 (F := Ideal) _ (mulf _ (up2 (stR l (1 / Loss.total l) (unit X) 10).w)) (z _ (up2 (stR l (1 / Loss.total l) (unit X) 10).w))
    (shapeCast S1x2048 (k0_pay1 (z _ (up2 (stR l (1 / Loss.total l) (unit X) 10).w))) _) _ = _
  rw [Knn.neg_two, z_up]
  exact Knn.score_up _ _ (unit X) i _ _ _ (exists_three (unit X) (unit Q) (stR l (1 / Loss.total l) (unit X) 10).w ⟨t * 1024 + i.val, h i⟩).choose_spec

end kernel

end Cert.Same

end
-- ==== Proof.lean ====
/-
The proof of `Cert.Claim`: the frames, the named constants, and the equality of the two results.
-/
module

public import proofs.«01_k».proof.Defs
public import proofs.«01_k».proof.Proof.Gen.Kernel
public import proofs.«01_k».proof.Proof.Gen.Kernel.Frame
public import proofs.«01_k».proof.Proof.KernelRun
public import proofs.«01_k».proof.Proof.Same
public import Idealize.ShloMosaic.Adequacy
public import Idealize.ShloMosaic.Init
public import Idealize.ShloMosaic.Lib.Quiescent

@[expose] public section

noncomputable section

namespace Cert.Proof

open Idealize.ShloMosaic Idealize.SL.Sem

/-- The reference's arguments end unchanged. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each named constant is what the table says it is. -/
theorem preserves : Cert.preserves_Kernel_KernelIdeal := by
  refine ⟨?_, ?_, ?_, ?_, ?_, ?_, ?_, ?_, ?_, ?_, ?_, ?_, ?_, ?_, ?_, ?_, ?_, ?_, ?_, ?_, ?_⟩
  all_goals
    apply IdealRules.named_const.statement
    rfl

section
open Cert.ReferenceIdeal Cert.ReferenceIdeal.Train

/-- On inputs that meet the condition, the reference's result is the kernel's. -/
theorem results (m : (ℓ : Loc Cert.KernelIdeal.nD Cert.KernelIdeal.τ Cert.KernelIdeal.sig) → Buf (Elt Ideal) ℓ) (ρ : Dev Cert.KernelIdeal.nD → PrngReg)
    (m' : (ℓ : Loc nD τ sig) → Buf (Elt Ideal) ℓ) (hp : Cert.Pre_KernelIdeal_meaningful m) (c : Dev Cert.KernelIdeal.nD)
    (h0 : supArg m' c = Cert.KernelIdeal.Whole.sup m c)
    (h1 : labArg m' c = m ((c.tc : Thread Cert.KernelIdeal.nD Cert.KernelIdeal.τ).loc Cert.KernelIdeal.main_arg1))
    (h2 : qryArg m' c = Cert.KernelIdeal.Whole.qry m c) :
    Cert.ReferenceIdeal.Value.out_main_v68 (Cert.ReferenceIdeal.Value.STEP^[10] (entry m' c))
      = Cert.KernelIdeal.Gen.W5 m ρ c (Proc.devRef .tc Cert.KernelIdeal.main_v4) := by
  have hc : Cert.Pre_meaningful.fn (F := Ideal) (supArg m' c) (labArg m' c) (qryArg m' c)
      (m ((c.tc : Thread Cert.KernelIdeal.nD Cert.KernelIdeal.τ).loc Cert.KernelIdeal.main_arg3)) = fun _ => 1#1 := by
    rw [h0, h1, h2]; exact hp c
  obtain ⟨X, l, Q, hg, hn, hw⟩ := meaningful m' c _ hc
  have hk := Cert.Same.kernel_value m ρ c (X := X) (l := l) (Q := Q) (h0.symm.trans hg.x)
    (fun i => (Cert.KernelIdeal.Train.lab_at _ i).trans (by rw [← h1]; exact hg.y i)) (h2.symm.trans hg.q) hg.total hn
  refine Eq.trans ?_ hk.symm
  have ha2 : (Cert.ReferenceIdeal.Value.STEP^[10] (entry m' c)) (Proc.devRef .tc main_arg2) = up2 Q :=
    (Cert.ReferenceIdeal.Value.iter_main_arg2 m' c 10).trans hg.q
  have ha0 : (Cert.ReferenceIdeal.Value.STEP^[10] (entry m' c)) (Proc.devRef .tc main_arg0) = up2 X :=
    (Cert.ReferenceIdeal.Value.iter_main_arg0 m' c 10).trans hg.x
  rw [Knn.out_eq, ha2, ha0, hw.w, Cert.Same.qn_up Q hg.query, Cert.Same.sn_up X hg.long]
  funext j
  rw [eq_ix1 j]
  exact Cert.Same.reference_value _ _ _ _

end

/-- The kernel and the reference end with one result. -/
theorem algebraic : Cert.algebraic_KernelIdeal_ReferenceIdeal_pre_meaningful := fun m g m' g' hp ha =>
  ⟨fun c => Cert.KernelIdeal.Gen.W5 m g c (Proc.devRef .tc Cert.KernelIdeal.main_v4),
    (θ_run Cert.KernelIdeal.defs _ _).mono (fun _ h => h.1) (Cert.KernelIdeal.Whole.run (F := Ideal) m g),
    (θ_run Cert.ReferenceIdeal.defs _ _).mono (fun _ h c =>
      ⟨(h c).1.trans (results m g m' hp c (ha c).1 (ha c).2.1 (ha c).2.2.1), (h c).2⟩) (Cert.ReferenceIdeal.Value.run (F := Ideal) m' g')⟩

theorem claim : Cert.Claim :=
  ⟨Cert.Kernel.Gen.facts, Cert.KernelIdeal.Gen.facts, Cert.ReferenceIdeal.Gen.facts, Cert.Pre_meaningful.facts,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial, preserves, algebraic⟩

end Cert.Proof

end
